-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S1x2048x1024 : Shape := ⟨3, ![1, 2048, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

class Facts : Prop where
  bcast_S_S1024x1024 : S_.BroadcastsInDim S1024x1024 (![] : Fin 0 → Fin S1024x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)

variable [Facts]

def fn_part1 {F : FTy → Type} [FloatOps F] (main_arg16 : FVec F S1024 .f32) (main_v18 : IVec S1024x1024 1) (main_v19 : FVec F S1024 .f32) : IVec S1024x1024 1 :=
  let main_cst_3 : FVec F S_ .f32 := constant S_ .f32 0x7F800000#32
  let main_v20 : FVec F S1024 .f32 := broadcastInDim S1024 ![] bcast_S_S1024 main_cst_3
  let main_v21 : IVec S1024 1 := cmpf .olt main_v19 main_v20
  let main_v22 : IVec S1x1024 1 := broadcastInDim S1x1024 ![1] bcast_S1024_S1x1024_1 main_v21
  let main_v23 : IVec S1024x1024 1 := broadcastInDim S1024x1024 ![0, 1] bcast_S1x1024_S1024x1024_0_1 main_v22
  let main_v24 : IVec S1024x1024 1 := andi main_v18 main_v23
  let main_v25 : FVec F S1024 .f32 := Host.absf main_arg16
  let main_cst_4 : FVec F S_ .f32 := constant S_ .f32 0x7F800000#32
  let main_v26 : FVec F S1024 .f32 := broadcastInDim S1024 ![] bcast_S_S1024 main_cst_4
  let main_v27 : IVec S1024 1 := cmpf .olt main_v25 main_v26
  let main_v28 : IVec S1x1024 1 := broadcastInDim S1x1024 ![1] bcast_S1024_S1x1024_1 main_v27
  let main_v29 : IVec S1024x1024 1 := broadcastInDim S1024x1024 ![0, 1] bcast_S1x1024_S1024x1024_0_1 main_v28
  let main_v30 : IVec S1024x1024 1 := andi main_v24 main_v29
  main_v30

def fn {F : FTy → Type} [FloatOps F] (main_arg0 : FVec F S1x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024 .f32) (main_arg16 : FVec F S1024 .f32) (main_arg17 : FVec F S1024 .f32) (main_arg18 : FVec F S1024 .f32) : IVec S1024x1024 1 :=
  let main_v0 : FVec F S1024x1024 .f32 := Host.absf main_arg1
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x1024 .f32 := Host.absf main_arg3
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : IVec S1024x1024 1 := andi main_v2 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : IVec S1x1024 1 := broadcastInDim S1x1024 ![1] bcast_S1024_S1x1024_1 main_v9
  let main_v11 : IVec S1024x1024 1 := broadcastInDim S1024x1024 ![0, 1] bcast_S1x1024_S1024x1024_0_1 main_v10
  let main_v12 : IVec S1024x1024 1 := andi main_v6 main_v11
  let main_v13 : FVec F S1024 .f32 := Host.absf main_arg4
  let main_cst_2 : FVec F S_ .f32 := constant S_ .f32 0x7F800000#32
  let main_v14 : FVec F S1024 .f32 := broadcastInDim S1024 ![] bcast_S_S1024 main_cst_2
  let main_v15 : IVec S1024 1 := cmpf .olt main_v13 main_v14
  let main_v16 : IVec S1x1024 1 := broadcastInDim S1x1024 ![1] bcast_S1024_S1x1024_1 main_v15
  let main_v17 : IVec S1024x1024 1 := broadcastInDim S1024x1024 ![0, 1] bcast_S1x1024_S1024x1024_0_1 main_v16
  let main_v18 : IVec S1024x1024 1 := andi main_v12 main_v17
  let main_v19 : FVec F S1024 .f32 := Host.absf main_arg15
  fn_part1 (F := F) main_arg16 main_v18 main_v19
-- ==== Kernel.lean ====
abbrev S1x2048x1024 : Shape := ⟨3, ![1, 2048, 1024]⟩
abbrev S1024x1024 : Shape := ⟨2, ![1024, 1024]⟩
abbrev S1024 : Shape := ⟨1, ![1024]⟩
abbrev S2048x1024 : Shape := ⟨2, ![2048, 1024]⟩
abbrev S3072 : Shape := ⟨1, ![3072]⟩
abbrev S1x3072 : Shape := ⟨2, ![1, 3072]⟩
abbrev S1x1024 : Shape := ⟨2, ![1, 1024]⟩
abbrev S2048x3072 : Shape := ⟨2, ![2048, 3072]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S2048x48x64 : Shape := ⟨3, ![2048, 48, 64]⟩
abbrev S48x2048x64 : Shape := ⟨3, ![48, 2048, 64]⟩
abbrev S16x2048x64 : Shape := ⟨3, ![16, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S16x256x64 : Shape := ⟨3, ![16, 256, 64]⟩
abbrev S1x256x64 : Shape := ⟨3, ![1, 256, 64]⟩
abbrev S256x64 : Shape := ⟨2, ![256, 64]⟩

abbrev nBuf : Space → Nat
  | .hbm => 43
  | .vmem => 34
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S2048x1024, .f32⟩
  | .hbm, ⟨20, _⟩ => ⟨S3072, .f32⟩
  | .hbm, ⟨21, _⟩ => ⟨S1x3072, .f32⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1x1024, .f32⟩
  | .hbm, ⟨26, _⟩ => ⟨S1x1024, .f32⟩
  | .hbm, ⟨27, _⟩ => ⟨S2048x3072, .bf16⟩
  | .hbm, ⟨28, _⟩ => ⟨S2048x48x64, .bf16⟩
  | .hbm, ⟨29, _⟩ => ⟨S48x2048x64, .bf16⟩
  | .hbm, ⟨30, _⟩ => ⟨S16x2048x64, .bf16⟩
  | .hbm, ⟨31, _⟩ => ⟨S1024x1024, .bf16⟩
  | .hbm, ⟨32, _⟩ => ⟨S1x1024, .f32⟩
  | .hbm, ⟨33, _⟩ => ⟨S1024x1024, .bf16⟩
  | .hbm, ⟨34, _⟩ => ⟨S1x1024, .f32⟩
  | .hbm, ⟨35, _⟩ => ⟨S1024x1024, .bf16⟩
  | .hbm, ⟨36, _⟩ => ⟨S1x1024, .f32⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S2048x1024, .f32⟩
  | .hbm, ⟨42, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x3072, .f32⟩
  | .local _ .vmem, ⟨6, _⟩ => ⟨S1x1024, .f32⟩
  | .local _ .vmem, ⟨7, _⟩ => ⟨S1x1024, .f32⟩
  | .local _ .vmem, ⟨8, _⟩ => ⟨S256x3072, .bf16⟩
  | .local _ .vmem, ⟨9, _⟩ => ⟨S256x3072, .bf16⟩
  | .local _ .vmem, ⟨10, _⟩ => ⟨S1x512x64, .bf16⟩
  | .local _ .vmem, ⟨11, _⟩ => ⟨S1x512x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x2048x64, .bf16⟩
  | .local _ .vmem, ⟨16, _⟩ => ⟨S1x512x64, .bf16⟩
  | .local _ .vmem, ⟨17, _⟩ => ⟨S1x512x64, .bf16⟩
  | .local _ .vmem, ⟨18, _⟩ => ⟨S16x256x64, .bf16⟩
  | .local _ .vmem, ⟨19, _⟩ => ⟨S16x256x64, .bf16⟩
  | .local _ .vmem, ⟨20, _⟩ => ⟨S256x1024, .f32⟩
  | .local _ .vmem, ⟨21, _⟩ => ⟨S256x1024, .f32⟩
  | .local _ .vmem, ⟨22, _⟩ => ⟨S1024x1024, .bf16⟩
  | .local _ .vmem, ⟨23, _⟩ => ⟨S1x1024, .f32⟩
  | .local _ .vmem, ⟨24, _⟩ => ⟨S1024x1024, .bf16⟩
  | .local _ .vmem, ⟨25, _⟩ => ⟨S1x1024, .f32⟩
  | .local _ .vmem, ⟨26, _⟩ => ⟨S1024x1024, .bf16⟩
  | .local _ .vmem, ⟨27, _⟩ => ⟨S1x1024, .f32⟩
  | .local _ .vmem, ⟨28, _⟩ => ⟨S1024x1024, .bf16⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S256x1024, .f32⟩
  | .local _ .vmem, ⟨33, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg12_0 : Ref sig .tc := ⟨.vmem, 32, rfl⟩
abbrev cc2_stg12_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem12_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x256x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x1024 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S256x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x1024 : Shape := ⟨2, ![1024, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S1x16x2048x2048 : Shape := ⟨4, ![1, 16, 2048, 2048]⟩
abbrev S2048x2048 : Shape := ⟨2, ![2048, 2048]⟩
abbrev S1x16x2048 : Shape := ⟨3, ![1, 16, 2048]⟩
abbrev S1x16x2048x1 : Shape := ⟨4, ![1, 16, 2048, 1]⟩

abbrev nBuf : Space → Nat
  | .hbm => 197
  | .vmem => 0
  | .smem => 0
  | _ => 0

abbrev hbmTy0_0 (i : Nat) : BufTy := match i % 128 with
  | 0 => ⟨S1x2048x1024, .f32⟩
  | 1 => ⟨S1024x1024, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S_, .f32⟩
  | 20 => ⟨S1x2048, .f32⟩
  | 21 => ⟨S1x2048x1, .f32⟩
  | 22 => ⟨S_, .f32⟩
  | 23 => ⟨S1x2048x1, .f32⟩
  | 24 => ⟨S1x2048x1, .f32⟩
  | 25 => ⟨S_, .i32⟩
  | 26 => ⟨S_, .f32⟩
  | 27 => ⟨S1x2048, .f32⟩
  | 28 => ⟨S1x2048x1, .f32⟩
  | 29 => ⟨S_, .f32⟩
  | 30 => ⟨S1x2048x1, .f32⟩
  | 31 => ⟨S1x2048x1, .f32⟩
  | 32 => ⟨S1x2048x1024, .f32⟩
  | 33 => ⟨S1x2048x1024, .f32⟩
  | 34 => ⟨S1x2048x1024, .f32⟩
  | 35 => ⟨S_, .f32⟩
  | 36 => ⟨S_, .f32⟩
  | 37 => ⟨S_, .f32⟩
  | 38 => ⟨S_, .f32⟩
  | 39 => ⟨S1x2048, .f32⟩
  | 40 => ⟨S1x2048x1, .f32⟩
  | 41 => ⟨S1x2048x1, .f32⟩
  | 42 => ⟨S1x2048x1, .f32⟩
  | 43 => ⟨S_, .f32⟩
  | 44 => ⟨S_, .i1⟩
  | 45 => ⟨S_, .f32⟩
  | 46 => ⟨S_, .f32⟩
  | 47 => ⟨S1x2048x1, .f32⟩
  | 48 => ⟨S1x2048x1, .f32⟩
  | 49 => ⟨S1x2048x1024, .f32⟩
  | 50 => ⟨S1x2048x1024, .f32⟩
  | 51 => ⟨S_, .f32⟩
  | 52 => ⟨S1x2048x1, .f32⟩
  | 53 => ⟨S1x2048x1, .f32⟩
  | 54 => ⟨S1x2048x1, .f32⟩
  | 55 => ⟨S1x2048x1024, .f32⟩
  | 56 => ⟨S1x2048x1024, .f32⟩
  | 57 => ⟨S1x1x1024, .f32⟩
  | 58 => ⟨S1x2048x1024, .f32⟩
  | 59 => ⟨S1x2048x1024, .f32⟩
  | 60 => ⟨S1x1x1024, .f32⟩
  | 61 => ⟨S1x2048x1024, .f32⟩
  | 62 => ⟨S1x2048x1024, .f32⟩
  | 63 => ⟨S1024x1024, .f32⟩
  | 64 => ⟨S1x2048x1024, .f32⟩
  | 65 => ⟨S1x1x1024, .f32⟩
  | 66 => ⟨S1x2048x1024, .f32⟩
  | 67 => ⟨S1x2048x1024, .f32⟩
  | 68 => ⟨S1x2048x16x64, .f32⟩
  | 69 => ⟨S1x16x2048x64, .f32⟩
  | 70 => ⟨S1024x1024, .f32⟩
  | 71 => ⟨S1x2048x1024, .f32⟩
  | 72 => ⟨S1x1x1024, .f32⟩
  | 73 => ⟨S1x2048x1024, .f32⟩
  | 74 => ⟨S1x2048x1024, .f32⟩
  | 75 => ⟨S1x2048x16x64, .f32⟩
  | 76 => ⟨S1x16x2048x64, .f32⟩
  | 77 => ⟨S1024x1024, .f32⟩
  | 78 => ⟨S1x2048x1024, .f32⟩
  | 79 => ⟨S1x1x1024, .f32⟩
  | 80 => ⟨S1x2048x1024, .f32⟩
  | 81 => ⟨S1x2048x1024, .f32⟩
  | 82 => ⟨S1x2048x16x64, .f32⟩
  | 83 => ⟨S1x16x2048x64, .f32⟩
  | 84 => ⟨S1x16x2048x2048, .f32⟩
  | 85 => ⟨S_, .f32⟩
  | 86 => ⟨S1x16x2048x2048, .f32⟩
  | 87 => ⟨S1x16x2048x2048, .f32⟩
  | 88 => ⟨S_, .i1⟩
  | 89 => ⟨S2048x2048, .i1⟩
  | 90 => ⟨S2048x2048, .i32⟩
  | 91 => ⟨S_, .i32⟩
  | 92 => ⟨S2048x2048, .i32⟩
  | 93 => ⟨S2048x2048, .i32⟩
  | 94 => ⟨S2048x2048, .i32⟩
  | 95 => ⟨S2048x2048, .i1⟩
  | 96 => ⟨S_, .i1⟩
  | 97 => ⟨S2048x2048, .i1⟩
  | 98 => ⟨S2048x2048, .i1⟩
  | 99 => ⟨S_, .f32⟩
  | 100 => ⟨S_, .f32⟩
  | 101 => ⟨S1x16x2048x2048, .i1⟩
  | 102 => ⟨S1x16x2048x2048, .f32⟩
  | 103 => ⟨S1x16x2048x2048, .f32⟩
  | 104 => ⟨S_, .f32⟩
  | 105 => ⟨S1x16x2048, .f32⟩
  | 106 => ⟨S_, .f32⟩
  | 107 => ⟨S1x16x2048, .f32⟩
  | 108 => ⟨S1x16x2048, .f32⟩
  | 109 => ⟨S1x16x2048x1, .f32⟩
  | 110 => ⟨S1x16x2048x2048, .f32⟩
  | 111 => ⟨S1x16x2048x2048, .f32⟩
  | 112 => ⟨S1x16x2048x2048, .f32⟩
  | 113 => ⟨S_, .f32⟩
  | 114 => ⟨S1x16x2048, .f32⟩
  | 115 => ⟨S1x16x2048x1, .f32⟩
  | 116 => ⟨S1x16x2048x2048, .f32⟩
  | 117 => ⟨S1x16x2048x2048, .f32⟩
  | 118 => ⟨S1x16x2048x64, .f32⟩
  | 119 => ⟨S1x2048x16x64, .f32⟩
  | 120 => ⟨S1x2048x1024, .f32⟩
  | 121 => ⟨S1024x1024, .f32⟩
  | 122 => ⟨S1x2048x1024, .f32⟩
  | 123 => ⟨S1x1x1024, .f32⟩
  | 124 => ⟨S1x2048x1024, .f32⟩
  | 125 => ⟨S1x2048x1024, .f32⟩
  | 126 => ⟨S1x2048x1024, .f32⟩
  | 127 => ⟨S_, .f32⟩
  | _ => ⟨S1x2048x1024, .f32⟩

abbrev hbmTy0_1 (i : Nat) : BufTy := match i % 128 with
  | 0 => ⟨S1x2048, .f32⟩
  | 1 => ⟨S1x2048x1, .f32⟩
  | 2 => ⟨S_, .f32⟩
  | 3 => ⟨S1x2048x1, .f32⟩
  | 4 => ⟨S1x2048x1, .f32⟩
  | 5 => ⟨S_, .i32⟩
  | 6 => ⟨S_, .f32⟩
  | 7 => ⟨S1x2048, .f32⟩
  | 8 => ⟨S1x2048x1, .f32⟩
  | 9 => ⟨S_, .f32⟩
  | 10 => ⟨S1x2048x1, .f32⟩
  | 11 => ⟨S1x2048x1, .f32⟩
  | 12 => ⟨S1x2048x1024, .f32⟩
  | 13 => ⟨S1x2048x1024, .f32⟩
  | 14 => ⟨S1x2048x1024, .f32⟩
  | 15 => ⟨S_, .f32⟩
  | 16 => ⟨S_, .f32⟩
  | 17 => ⟨S_, .f32⟩
  | 18 => ⟨S_, .f32⟩
  | 19 => ⟨S1x2048, .f32⟩
  | 20 => ⟨S1x2048x1, .f32⟩
  | 21 => ⟨S1x2048x1, .f32⟩
  | 22 => ⟨S1x2048x1, .f32⟩
  | 23 => ⟨S_, .f32⟩
  | 24 => ⟨S_, .i1⟩
  | 25 => ⟨S_, .f32⟩
  | 26 => ⟨S_, .f32⟩
  | 27 => ⟨S1x2048x1, .f32⟩
  | 28 => ⟨S1x2048x1, .f32⟩
  | 29 => ⟨S1x2048x1024, .f32⟩
  | 30 => ⟨S1x2048x1024, .f32⟩
  | 31 => ⟨S_, .f32⟩
  | 32 => ⟨S1x2048x1, .f32⟩
  | 33 => ⟨S1x2048x1, .f32⟩
  | 34 => ⟨S1x2048x1, .f32⟩
  | 35 => ⟨S1x2048x1024, .f32⟩
  | 36 => ⟨S1x2048x1024, .f32⟩
  | 37 => ⟨S1x1x1024, .f32⟩
  | 38 => ⟨S1x2048x1024, .f32⟩
  | 39 => ⟨S1x2048x1024, .f32⟩
  | 40 => ⟨S1x1x1024, .f32⟩
  | 41 => ⟨S1x2048x1024, .f32⟩
  | 42 => ⟨S1x2048x1024, .f32⟩
  | 43 => ⟨S1024x1024, .f32⟩
  | 44 => ⟨S1x2048x1024, .f32⟩
  | 45 => ⟨S1x1x1024, .f32⟩
  | 46 => ⟨S1x2048x1024, .f32⟩
  | 47 => ⟨S1x2048x1024, .f32⟩
  | 48 => ⟨S1024x1024, .f32⟩
  | 49 => ⟨S1x2048x1024, .f32⟩
  | 50 => ⟨S1x1x1024, .f32⟩
  | 51 => ⟨S1x2048x1024, .f32⟩
  | 52 => ⟨S1x2048x1024, .f32⟩
  | 53 => ⟨S1x2048x1024, .f32⟩
  | 54 => ⟨S1x2048x1024, .f32⟩
  | 55 => ⟨S_, .f32⟩
  | 56 => ⟨S1x2048x1024, .f32⟩
  | 57 => ⟨S1x2048x1024, .f32⟩
  | 58 => ⟨S_, .f32⟩
  | 59 => ⟨S1x2048x1024, .f32⟩
  | 60 => ⟨S1x2048x1024, .f32⟩
  | 61 => ⟨S1x2048x1024, .f32⟩
  | 62 => ⟨S1x2048x1024, .f32⟩
  | 63 => ⟨S1024x1024, .f32⟩
  | 64 => ⟨S1x2048x1024, .f32⟩
  | 65 => ⟨S1x1x1024, .f32⟩
  | 66 => ⟨S1x2048x1024, .f32⟩
  | 67 => ⟨S1x2048x1024, .f32⟩
  | 68 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_cst_1 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_2 : Ref sig .tc := ⟨.hbm, 85, rfl⟩
abbrev main_v40 : Ref sig .tc := ⟨.hbm, 86, rfl⟩
abbrev main_v41 : Ref sig .tc := ⟨.hbm, 87, rfl⟩
abbrev main_c_3 : Ref sig .tc := ⟨.hbm, 88, rfl⟩
abbrev main_v42 : Ref sig .tc := ⟨.hbm, 89, rfl⟩
abbrev main_call1_v0 : Ref sig .tc := ⟨.hbm, 90, rfl⟩
abbrev main_call1_c : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_c_0 : Ref sig .tc := ⟨.hbm, 96, rfl⟩
abbrev main_call1_v5 : Ref sig .tc := ⟨.hbm, 97, rfl⟩
abbrev main_v43 : Ref sig .tc := ⟨.hbm, 98, rfl⟩
abbrev main_cst_4 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v44 : Ref sig .tc := ⟨.hbm, 103, rfl⟩
abbrev main_cst_5 : Ref sig .tc := ⟨.hbm, 104, rfl⟩
abbrev main_v45 : Ref sig .tc := ⟨.hbm, 105, rfl⟩
abbrev main_cst_6 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_cst_7 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_cst_8 : Ref sig .tc := ⟨.hbm, 127, rfl⟩
abbrev main_v65 : Ref sig .tc := ⟨.hbm, 128, rfl⟩
abbrev main_v66 : Ref sig .tc := ⟨.hbm, 129, rfl⟩
abbrev main_cst_9 : Ref sig .tc := ⟨.hbm, 130, rfl⟩
abbrev main_v67 : Ref sig .tc := ⟨.hbm, 131, rfl⟩
abbrev main_v68 : Ref sig .tc := ⟨.hbm, 132, rfl⟩
abbrev main_c_10 : Ref sig .tc := ⟨.hbm, 133, rfl⟩
abbrev main_call3_cst : Ref sig .tc := ⟨.hbm, 134, rfl⟩
abbrev main_call3_v0 : Ref sig .tc := ⟨.hbm, 135, rfl⟩
abbrev main_call3_v1 : Ref sig .tc := ⟨.hbm, 136, rfl⟩
abbrev main_call3_cst_0 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_v7 : Ref sig .tc := ⟨.hbm, 143, rfl⟩
abbrev main_call3_cst_1 : Ref sig .tc := ⟨.hbm, 144, rfl⟩
abbrev main_call3_v8 : Ref sig .tc := ⟨.hbm, 145, rfl⟩
abbrev main_call3_cst_2 : Ref sig .tc := ⟨.hbm, 146, rfl⟩
abbrev main_call3_v9 : Ref sig .tc := ⟨.hbm, 147, rfl⟩
abbrev main_call3_v10 : Ref sig .tc := ⟨.hbm, 148, rfl⟩
abbrev main_call3_v11 : Ref sig .tc := ⟨.hbm, 149, rfl⟩
abbrev main_call3_v12 : Ref sig .tc := ⟨.hbm, 150, rfl⟩
abbrev main_call3_cst_3 : Ref sig .tc := ⟨.hbm, 151, rfl⟩
abbrev main_call3_v13 : Ref sig .tc := ⟨.hbm, 152, rfl⟩
abbrev main_call3_cst_4 : Ref sig .tc := ⟨.hbm, 153, rfl⟩
abbrev main_call3_call0_v0 : Ref sig .tc := ⟨.hbm, 154, rfl⟩
abbrev main_call3_call0_v1 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_cst_11 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_call4_v0 : Ref sig .tc := ⟨.hbm, 181, rfl⟩
abbrev main_call4_v1 : Ref sig .tc := ⟨.hbm, 182, rfl⟩
abbrev main_call4_cst : Ref sig .tc := ⟨.hbm, 183, rfl⟩
abbrev main_call4_v2 : Ref sig .tc := ⟨.hbm, 184, rfl⟩
abbrev main_call4_v3 : Ref sig .tc := ⟨.hbm, 185, rfl⟩
abbrev main_call4_cst_0 : Ref sig .tc := ⟨.hbm, 186, rfl⟩
abbrev main_call4_v4 : Ref sig .tc := ⟨.hbm, 187, rfl⟩
abbrev main_call4_v5 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩

abbrev nD : Nat := 1
abbrev τ : Topo := Topo.v7x

variable {F : FTy → Type} [FloatOps F]
-- ==== Proof.Real.lean ====
/- Extended reals that are real numbers, the printed constants of the two programs, and when a factor moves in or out
   of a sum. -/
module

public import Idealize.ShloMosaic.Lib.Pointwise
public import Idealize.ShloMosaic.Lib.IdealHost

@[expose] public section

noncomputable section

namespace Cert.Proof.Spec

open Idealize.ShloMosaic
open scoped BigOperators

/-- `x` is a real number: neither infinity. -/
def IsReal (x : EReal) : Prop := ∃ r : ℝ, x = (r : EReal)

/-- The real numbers are all but the two infinities. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- Sums of real numbers are real, -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- and products. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Zero is real. -/
theorem isReal_zero : IsReal 0 := ⟨0, rfl⟩

/-- A finite sum of real numbers is a real number. -/
theorem IsReal.sum {ι : Type} {s : Finset ι} {f : ι → EReal} (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The square of an extended real is not negative. -/
theorem mul_self_nonneg (x : EReal) : 0 ≤ x * x := by
  induction x with
  | bot => simp
  | top => simp
  | coe r => rw [← EReal.coe_mul]; exact_mod_cast _root_.mul_self_nonneg r

/-- An extended real whose square is below `⊤` is real. -/
theorem isReal_of_mul_self {x : EReal} (h : x * x ≠ ⊤) : IsReal x := by
  induction x with
  | bot => simp at h
  | top => simp at h
  | coe r => exact ⟨r, rfl⟩

/-- A real factor that is not negative moves out of a sum on its right, whatever the terms. -/
theorem sum_mul {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm _ (c : EReal),
      EReal.left_distrib_of_nonneg_of_ne_top (by exact_mod_cast hc) (EReal.coe_ne_top c), mul_comm _ (f a), mul_comm _ (∑ i ∈ s, f i)]

/-- Division by a real number that is not zero is multiplication by its inverse. -/
theorem div_coe (x : EReal) {r : ℝ} (hr : r ≠ 0) : Ideal.div x (r : EReal) = x * ((r⁻¹ : ℝ) : EReal) := by
  unfold Ideal.div
  rw [if_neg (by exact_mod_cast hr), EReal.coe_inv]

/-- The number 1024, as both programs print it. -/
theorem count_eq : Ideal.ofBits .f32 0x44800000#32 = ((1024 : ℝ) : EReal) := by
  simp [Ideal.ofBits, Ideal.ieee, -EReal.coe_mul]; norm_num

/-- The score scale is one eighth at bfloat16 (the kernel's), -/
theorem eighth_bf16 : Ideal.ofBits .bf16 0x3E00#16 = (((1 : ℝ) / 8 : ℝ) : EReal) := by
  simp [Ideal.ofBits, Ideal.ieee, -EReal.coe_mul]; norm_num

/-- and at float32 (the reference's). -/
theorem eighth_f32 : Ideal.ofBits .f32 0x3E000000#32 = (((1 : ℝ) / 8 : ℝ) : EReal) := by
  simp [Ideal.ofBits, Ideal.ieee, -EReal.coe_mul]; norm_num

/-- The number added to a variance is a positive real. -/
theorem eps_pos : ∃ r : ℝ, 0 < r ∧ Ideal.ofBits .f32 0x358637BD#32 = (r : EReal) := by
  refine ⟨_, ?_, by simp only [Ideal.ofBits, Ideal.ieee]; rw [if_neg (by decide), if_neg (by decide)]⟩
  have : (0x358637BD#32 : BitVec 32).extractLsb' (8 + 23) 1 = 0#1 := by decide
  simp [this]

/-- The pattern of negative infinity. -/
theorem neg_inf_f32 : Ideal.ofBits .f32 0xFF800000#32 = ⊥ := by simp [Ideal.ofBits, Ideal.ieee]

/-- The pattern of positive infinity. -/
theorem pos_inf_f32 : Ideal.ofBits .f32 0x7F800000#32 = ⊤ := by simp [Ideal.ofBits, Ideal.ieee]

end Cert.Proof.Spec

end
-- ==== Proof.Norm.lean ====
/- Layer normalization of one row of 1024 numbers. -/
module

public import proofs.«01_k».proof.Proof.Real

@[expose] public section

noncomputable section

namespace Cert.Proof.Spec

open Idealize.ShloMosaic
open scoped BigOperators

/-- The mean of a row. -/
def mean (f : Fin 1024 → EReal) : EReal := Ideal.div (∑ k, f k) (Ideal.ofBits .f32 0x44800000#32)

/-- The mean of the squared distances of a row from its mean. -/
def var (f : Fin 1024 → EReal) : EReal :=
  Ideal.div (∑ k, (f k - mean f) * (f k - mean f)) (Ideal.ofBits .f32 0x44800000#32)

/-- Layer normalization by a reciprocal root, as the kernel computes it: weight `w`, bias `b`. -/
def norm (f w b : Fin 1024 → EReal) (k : Fin 1024) : EReal :=
  (f k - mean f) * Ideal.rsqrt (var f + Ideal.ofBits .f32 0x358637BD#32) * w k + b k

/-- Layer normalization by a root and a division, as the reference computes it. -/
def normD (f w b : Fin 1024 → EReal) (k : Fin 1024) : EReal :=
  Ideal.div (f k - mean f) (Ideal.sqrt (var f + Ideal.ofBits .f32 0x358637BD#32)) * w k + b k

/-- Division by the printed count multiplies by 1/1024. -/
theorem div_count (x : EReal) : Ideal.div x (Ideal.ofBits .f32 0x44800000#32) = x * (((1024 : ℝ)⁻¹ : ℝ) : EReal) := by
  rw [count_eq, div_coe x (by norm_num)]

/-- The sum of the squares under `var` is not negative. -/
theorem sq_sum_nonneg (f : Fin 1024 → EReal) : 0 ≤ ∑ k, (f k - mean f) * (f k - mean f) :=
  Finset.sum_nonneg fun k _ => mul_self_nonneg _

/-- A variance is not negative. -/
theorem var_nonneg (f : Fin 1024 → EReal) : 0 ≤ var f := by
  unfold var
  rw [div_count]
  exact mul_nonneg (sq_sum_nonneg f) (by exact_mod_cast (by positivity : (0 : ℝ) ≤ (1024 : ℝ)⁻¹))

/-- A variance with the printed small number added is `⊤` or a positive real. -/
theorem var_add_eps (f : Fin 1024 → EReal) :
    var f + Ideal.ofBits .f32 0x358637BD#32 = ⊤ ∨
      ∃ r : ℝ, 0 < r ∧ var f + Ideal.ofBits .f32 0x358637BD#32 = (r : EReal) := by
  obtain ⟨e, he, h⟩ := eps_pos
  rw [h]
  have hv := var_nonneg f
  generalize var f = v at hv
  induction v with
  | bot => simp at hv
  | top => left; simp
  | coe r =>
    right
    have hr : 0 ≤ r := by exact_mod_cast hv
    exact ⟨r + e, by positivity, (EReal.coe_add r e).symm⟩

/-- The two ways to normalize give the same row, whatever its entries. -/
theorem norm_eq_normD (f w b : Fin 1024 → EReal) : norm f w b = normD f w b := by
  funext k
  unfold norm normD
  rcases var_add_eps f with h | ⟨r, hr, h⟩
  · rw [h]
    have : Ideal.div (f k - mean f) (Ideal.sqrt ⊤) = (f k - mean f) * Ideal.rsqrt ⊤ := by
      rw [show Ideal.sqrt ⊤ = ⊤ from rfl, show Ideal.rsqrt ⊤ = 0 from rfl]
      unfold Ideal.div
      rw [if_neg EReal.top_ne_zero, EReal.inv_top]
    rw [this]
  · rw [h]
    have hs : Real.sqrt r ≠ 0 := (Real.sqrt_pos.2 hr).ne'
    have h1 : Ideal.sqrt (r : EReal) = ((Real.sqrt r : ℝ) : EReal) := by
      show (if r < 0 then (⊥ : EReal) else ((Real.sqrt r : ℝ) : EReal)) = _
      rw [if_neg hr.not_gt]
    have h2 : Ideal.rsqrt (r : EReal) = (((Real.sqrt r)⁻¹ : ℝ) : EReal) := by
      show (if r < 0 then (⊥ : EReal) else if r = 0 then ⊤ else (((Real.sqrt r)⁻¹ : ℝ) : EReal)) = _
      rw [if_neg hr.not_gt, if_neg hr.ne']
    rw [h1, h2, div_coe _ hs]

/-- Where weight and bias are real the normalized row is real, whatever the row: an infinite variance gives the
    factor 0, and a real variance comes of real distances only. -/
theorem norm_isReal (f : Fin 1024 → EReal) {w b : Fin 1024 → EReal} (hw : ∀ k, IsReal (w k)) (hb : ∀ k, IsReal (b k))
    (k : Fin 1024) : IsReal (norm f w b k) := by
  unfold norm
  refine IsReal.add (IsReal.mul ?_ (hw k)) (hb k)
  rcases var_add_eps f with h | ⟨r, hr, h⟩
  · rw [h]
    have : Ideal.rsqrt ⊤ = 0 := rfl
    rw [this, mul_zero]; exact isReal_zero
  · have h2 : Ideal.rsqrt (r : EReal) = (((Real.sqrt r)⁻¹ : ℝ) : EReal) := by
      show (if r < 0 then (⊥ : EReal) else if r = 0 then ⊤ else (((Real.sqrt r)⁻¹ : ℝ) : EReal)) = _
      rw [if_neg hr.not_gt, if_neg hr.ne']
    rw [h, h2]
    refine IsReal.mul (isReal_of_mul_self fun ht => ?_) ⟨_, rfl⟩
    have hsum : ∑ k, (f k - mean f) * (f k - mean f) = ⊤ :=
      top_le_iff.1 (ht ▸ Finset.single_le_sum (f := fun k => (f k - mean f) * (f k - mean f))
        (fun k _ => mul_self_nonneg _) (Finset.mem_univ k))
    have hv : var f = ⊤ := by
      unfold var
      rw [div_count, hsum]
      exact EReal.top_mul_coe_of_pos (by norm_num)
    obtain ⟨e, -, he⟩ := eps_pos
    rw [hv, he, EReal.top_add_coe] at h
    exact EReal.coe_ne_top r h.symm

end Cert.Proof.Spec

end
-- ==== Proof.Softmax.lean ====
/- One row of causal attention over 2048 keys: the kernel's and the reference's way to compute it, and that they agree
   where queries and keys are real. -/
module

public import proofs.«01_k».proof.Proof.Real

@[expose] public section

noncomputable section

namespace Cert.Proof.Spec

open Idealize.ShloMosaic
open scoped BigOperators

/-- The kernel's masked score of the query row `q` at position `i` against key `j`: the query is scaled first. -/
def scoreK (q : Fin 64 → EReal) (k : Fin 2048 → Fin 64 → EReal) (i j : Fin 2048) : EReal :=
  if j ≤ i then ∑ d, q d * Ideal.ofBits .bf16 0x3E00#16 * k j d else ⊥

/-- The reference's masked score: the product is scaled. -/
def scoreR (q : Fin 64 → EReal) (k : Fin 2048 → Fin 64 → EReal) (i j : Fin 2048) : EReal :=
  if j ≤ i then (∑ d, q d * k j d) * Ideal.ofBits .f32 0x3E000000#32 else ⊥

/-- The largest score of a row. -/
def top (s : Fin 2048 → EReal) : EReal := Finset.univ.fold max ⊥ s

/-- The weight of key `j` before division. -/
def weight (s : Fin 2048 → EReal) (j : Fin 2048) : EReal := Ideal.exp (s j - top s)

/-- The kernel's average of the values `v`: one division of the weighted sum by the sum of the weights. -/
def avgK (s v : Fin 2048 → EReal) : EReal := Ideal.div (∑ j, weight s j * v j) (∑ j, weight s j)

/-- The reference's average of the values `v`: each weight is divided first. -/
def avgR (s v : Fin 2048 → EReal) : EReal := ∑ j, Ideal.div (weight s j) (∑ l, weight s l) * v j

/-- Scaling the query scales the product, since the scale is a positive real. -/
theorem scoreK_eq_scoreR (q : Fin 64 → EReal) (k : Fin 2048 → Fin 64 → EReal) (i : Fin 2048) :
    scoreK q k i = scoreR q k i := by
  funext j
  unfold scoreK scoreR
  rw [eighth_bf16, eighth_f32, sum_mul _ _ (by norm_num)]
  split
  · exact Finset.sum_congr rfl fun d _ => by rw [mul_assoc, mul_comm _ (k j d), ← mul_assoc]
  · rfl

/-- A score at or below the diagonal is real, where queries and keys are. -/
theorem scoreK_isReal {q : Fin 64 → EReal} {k : Fin 2048 → Fin 64 → EReal} (hq : ∀ d, IsReal (q d))
    (hk : ∀ j d, IsReal (k j d)) {i j : Fin 2048} (h : j ≤ i) : IsReal (scoreK q k i j) := by
  unfold scoreK
  rw [if_pos h, eighth_bf16]
  exact IsReal.sum fun d _ => ((hq d).mul ⟨_, rfl⟩).mul (hk j d)

/-- A row of scores, each real or masked, with one real among them: its largest is real. -/
theorem top_isReal {s : Fin 2048 → EReal} (hs : ∀ j, s j ≠ ⊤) {i : Fin 2048} (hi : IsReal (s i)) : IsReal (top s) := by
  rw [isReal_iff]
  constructor
  · have : ⊥ < top s := (Finset.lt_fold_max _).2 (.inr ⟨i, Finset.mem_univ i, bot_lt_iff_ne_bot.2 (isReal_iff.1 hi).1⟩)
    exact this.ne'
  · have : top s < ⊤ := (Finset.fold_max_lt _).2 ⟨bot_lt_top, fun j _ => lt_top_iff_ne_top.2 (hs j)⟩
    exact this.ne

/-- Each weight is a real number that is not negative, and positive where the score is real. -/
theorem weight_real {s : Fin 2048 → EReal} (hs : ∀ j, s j ≠ ⊤) {i : Fin 2048} (hi : IsReal (s i)) (j : Fin 2048) :
    ∃ r : ℝ, 0 ≤ r ∧ weight s j = (r : EReal) ∧ (s j ≠ ⊥ → 0 < r) := by
  obtain ⟨m, hm⟩ := top_isReal hs hi
  unfold weight
  rw [hm]
  have hj := hs j
  generalize s j = x at hj
  induction x with
  | bot => exact ⟨0, le_rfl, by rw [EReal.bot_sub]; rfl, fun h => absurd rfl h⟩
  | top => exact absurd rfl hj
  | coe r => exact ⟨Real.exp (r - m), (Real.exp_pos _).le, by rw [← EReal.coe_sub]; rfl, fun _ => Real.exp_pos _⟩

/-- The sum of the weights is a positive real. -/
theorem sum_weight_pos {s : Fin 2048 → EReal} (hs : ∀ j, s j ≠ ⊤) {i : Fin 2048} (hi : IsReal (s i)) :
    ∃ r : ℝ, 0 < r ∧ ∑ j, weight s j = (r : EReal) := by
  obtain ⟨l, hl⟩ : IsReal (∑ j, weight s j) := IsReal.sum fun j _ => by
    obtain ⟨r, -, h, -⟩ := weight_real hs hi j; exact ⟨r, h⟩
  refine ⟨l, ?_, hl⟩
  obtain ⟨r, -, h, hp⟩ := weight_real hs hi i
  have hle : weight s i ≤ ∑ j, weight s j := Finset.single_le_sum (fun j _ => by
    obtain ⟨r, h0, h, -⟩ := weight_real hs hi j; rw [h]; exact_mod_cast h0) (Finset.mem_univ i)
  rw [hl, h] at hle
  exact lt_of_lt_of_le (hp (isReal_iff.1 hi).1) (by exact_mod_cast hle)

/-- The two averages agree for any values `v`, where no score is `⊤` and one is real. -/
theorem avgK_eq_avgR {s : Fin 2048 → EReal} (hs : ∀ j, s j ≠ ⊤) {i : Fin 2048} (hi : IsReal (s i)) (v : Fin 2048 → EReal) :
    avgK s v = avgR s v := by
  unfold avgK avgR
  obtain ⟨l, hl, h⟩ := sum_weight_pos hs hi
  rw [h, div_coe _ hl.ne', sum_mul _ _ (inv_nonneg.2 hl.le)]
  exact Finset.sum_congr rfl fun j _ => by rw [div_coe _ hl.ne', mul_assoc, mul_comm (v j), ← mul_assoc]

/-- One entry of the kernel's attention is the reference's, where queries and keys are real. -/
theorem attn_eq {q : Fin 64 → EReal} {k : Fin 2048 → Fin 64 → EReal} (hq : ∀ d, IsReal (q d))
    (hk : ∀ j d, IsReal (k j d)) (v : Fin 2048 → EReal) (i : Fin 2048) :
    avgK (scoreK q k i) v = avgR (scoreR q k i) v := by
  rw [← scoreK_eq_scoreR]
  refine avgK_eq_avgR (i := i) (fun j => ?_) (scoreK_isReal hq hk le_rfl) v
  by_cases h : j ≤ i
  · exact (isReal_iff.1 (scoreK_isReal hq hk h)).2
  · unfold scoreK; rw [if_neg h]; exact bot_ne_top

end Cert.Proof.Spec

end
-- ==== Proof.Spec.lean ====
/- The layer's mathematics: a transformer layer over 2048 rows of 1024 numbers, as the kernel and as the reference compute it. -/
module

public import proofs.«01_k».proof.Proof.Norm
public import proofs.«01_k».proof.Proof.Softmax

@[expose] public section

noncomputable section

namespace Cert.Proof.Spec

open Idealize.ShloMosaic
open scoped BigOperators

/-- Column `n` of a linear map of the row `h`: weights `W` (one row of them per column), bias `b`. -/
def lin (h : Fin 1024 → EReal) (W : Fin 1024 → Fin 1024 → EReal) (b : Fin 1024 → EReal) (n : Fin 1024) : EReal :=
  ∑ k, h k * W n k + b n

/-- A linear map with real entries takes a real row to a real row. -/
theorem lin_isReal {h : Fin 1024 → EReal} {W : Fin 1024 → Fin 1024 → EReal} {b : Fin 1024 → EReal}
    (hh : ∀ k, IsReal (h k)) (hW : ∀ n k, IsReal (W n k)) (hb : ∀ n, IsReal (b n)) (n : Fin 1024) :
    IsReal (lin h W b n) :=
  (IsReal.sum fun k _ => (hh k).mul (hW n k)).add (hb n)

/-- Three arrays of 1024 laid end to end. -/
def stack {α : Type} (q k v : Fin 1024 → α) (n : Fin 3072) : α :=
  if h : n.val < 1024 then q ⟨n.val, h⟩
  else if h' : n.val < 2048 then k ⟨n.val - 1024, by omega⟩ else v ⟨n.val - 2048, by omega⟩

/-- The first 1024 entries are the first array's, -/
theorem stack_fst {α : Type} (q k v : Fin 1024 → α) (n : Fin 1024) (h : n.val < 3072) : stack q k v ⟨n.val, h⟩ = q n := by
  unfold stack; rw [dif_pos n.isLt]

/-- the next the second's, -/
theorem stack_snd {α : Type} (q k v : Fin 1024 → α) (n : Fin 1024) (h : 1024 + n.val < 3072) :
    stack q k v ⟨1024 + n.val, h⟩ = k n := by
  unfold stack
  rw [dif_neg (by show ¬ 1024 + n.val < 1024; omega), dif_pos (by have := n.isLt; show 1024 + n.val < 2048; omega)]
  exact congrArg k (Fin.ext (by show 1024 + n.val - 1024 = n.val; omega))

/-- and the last the third's. -/
theorem stack_trd {α : Type} (q k v : Fin 1024 → α) (n : Fin 1024) (h : 2048 + n.val < 3072) :
    stack q k v ⟨2048 + n.val, h⟩ = v n := by
  unfold stack
  rw [dif_neg (by show ¬ 2048 + n.val < 1024; omega), dif_neg (by show ¬ 2048 + n.val < 2048; omega)]
  exact congrArg v (Fin.ext (by show 2048 + n.val - 2048 = n.val; omega))

/-- Column `n` of the three projections of the normalized row `x`, side by side. -/
def proj (x w b : Fin 1024 → EReal) (W : Fin 3072 → Fin 1024 → EReal) (bias : Fin 3072 → EReal) (n : Fin 3072) : EReal :=
  ∑ k, norm x w b k * W n k + bias n

/-- Projections of equal arrays are equal. -/
theorem proj_congr {x x' w w' b b' : Fin 1024 → EReal} {Wq Wq' Wk Wk' Wv Wv' : Fin 1024 → Fin 1024 → EReal}
    {bias bias' : Fin 3072 → EReal} {n n' : Fin 3072} (hx : ∀ k, x k = x' k) (hw : ∀ k, w k = w' k) (hb : ∀ k, b k = b' k)
    (hq : ∀ n k, Wq n k = Wq' n k) (hk : ∀ n k, Wk n k = Wk' n k) (hv : ∀ n k, Wv n k = Wv' n k)
    (hbias : ∀ n, bias n = bias' n) (hn : n = n') :
    proj x w b (stack Wq Wk Wv) bias n = proj x' w' b' (stack Wq' Wk' Wv') bias' n' := by
  rw [funext hx, funext hw, funext hb, funext fun n => funext (hq n), funext fun n => funext (hk n),
    funext fun n => funext (hv n), funext hbias, hn]

/-- Column `d` of head `h` in a row of 1024. -/
def col (h : Fin 16) (d : Fin 64) : Fin 1024 := ⟨h.val * 64 + d.val, by omega⟩

/-- The head that column `n` belongs to. -/
def head (n : Fin 1024) : Fin 16 := ⟨n.val / 64, by omega⟩

/-- The place of column `n` in its head. -/
def lane (n : Fin 1024) : Fin 64 := ⟨n.val % 64, by omega⟩

/-- A column is its place in its head. -/
theorem col_head_lane (n : Fin 1024) : col (head n) (lane n) = n := by
  apply Fin.ext; show n.val / 64 * 64 + n.val % 64 = n.val; omega

/-- Attention entries of equal queries, keys and values are equal. -/
theorem attn_congr {q q' : Fin 64 → EReal} {k k' : Fin 2048 → Fin 64 → EReal} {v v' : Fin 2048 → EReal} {i : Fin 2048}
    (hq : ∀ d, q d = q' d) (hk : ∀ j d, k j d = k' j d) (hv : ∀ j, v j = v' j) :
    avgK (scoreK q k i) v = avgK (scoreK q' k' i) v' := by
  rw [funext hq, funext fun j => funext (hk j), funext hv]

/-- Entry `(i, n)` of the kernel's attention: the head of column `n` over queries `q`, keys `k` and values `v`. -/
def attnK (q k v : Fin 2048 → Fin 1024 → EReal) (i : Fin 2048) (n : Fin 1024) : EReal :=
  avgK (scoreK (fun d => q i (col (head n) d)) (fun j d => k j (col (head n) d)) i) (fun j => v j n)

/-- Entry `(i, n)` of the reference's attention. -/
def attnR (q k v : Fin 2048 → Fin 1024 → EReal) (i : Fin 2048) (n : Fin 1024) : EReal :=
  avgR (scoreR (fun d => q i (col (head n) d)) (fun j d => k j (col (head n) d)) i) (fun j => v j n)

/-- The two attentions agree where queries and keys are real. -/
theorem attnK_eq_attnR {q k : Fin 2048 → Fin 1024 → EReal} (hq : ∀ i n, IsReal (q i n)) (hk : ∀ i n, IsReal (k i n))
    (v : Fin 2048 → Fin 1024 → EReal) : attnK q k v = attnR q k v := by
  funext i n
  exact attn_eq (fun d => hq i _) (fun j d => hk j _) _ i

/-- A row after attention: the output projection of the attention row `a`, with the layer's input row `x` added. -/
def mid (a x : Fin 1024 → EReal) (Wo : Fin 1024 → Fin 1024 → EReal) (bo : Fin 1024 → EReal) (n : Fin 1024) : EReal :=
  lin a Wo bo n + x n

/-- The gated hidden row: gate times its logistic times the other branch. -/
def gated (h : Fin 1024 → EReal) (Wg Wu : Fin 1024 → Fin 1024 → EReal) (bg bu : Fin 1024 → EReal) (n : Fin 1024) : EReal :=
  lin h Wg bg n * Ideal.logistic (lin h Wg bg n) * lin h Wu bu n

/-- The layer's last part on the row `x2` after attention: normalization, gated linear maps, and `x2` added. -/
def mlp (x2 w b : Fin 1024 → EReal) (Wg Wu Wd : Fin 1024 → Fin 1024 → EReal) (bg bu bd : Fin 1024 → EReal)
    (n : Fin 1024) : EReal :=
  lin (gated (norm x2 w b) Wg Wu bg bu) Wd bd n + x2 n

/-- Rows after attention of equal arrays are equal. -/
theorem mid_congr {a a' x x' bo bo' : Fin 1024 → EReal} {Wo Wo' : Fin 1024 → Fin 1024 → EReal}
    (ha : ∀ k, a k = a' k) (hx : ∀ k, x k = x' k) (hW : ∀ n k, Wo n k = Wo' n k) (hb : ∀ k, bo k = bo' k) (n : Fin 1024) :
    mid a x Wo bo n = mid a' x' Wo' bo' n := by
  rw [funext ha, funext hx, funext fun n => funext (hW n), funext hb]

/-- The last part, of equal arrays, is equal. -/
theorem mlp_congr {x x' w w' b b' bg bg' bu bu' bd bd' : Fin 1024 → EReal} {Wg Wg' Wu Wu' Wd Wd' : Fin 1024 → Fin 1024 → EReal}
    {n n' : Fin 1024} (hx : ∀ k, x k = x' k) (hw : ∀ k, w k = w' k) (hb : ∀ k, b k = b' k)
    (hWg : ∀ n k, Wg n k = Wg' n k) (hWu : ∀ n k, Wu n k = Wu' n k) (hWd : ∀ n k, Wd n k = Wd' n k)
    (hbg : ∀ k, bg k = bg' k) (hbu : ∀ k, bu k = bu' k) (hbd : ∀ k, bd k = bd' k) (hn : n = n') :
    mlp x w b Wg Wu Wd bg bu bd n = mlp x' w' b' Wg' Wu' Wd' bg' bu' bd' n' := by
  rw [funext hx, funext hw, funext hb, funext fun n => funext (hWg n), funext fun n => funext (hWu n),
    funext fun n => funext (hWd n), funext hbg, funext hbu, funext hbd, hn]

/-- The layer's last part as the reference computes it. -/
def mlpD (x2 w b : Fin 1024 → EReal) (Wg Wu Wd : Fin 1024 → Fin 1024 → EReal) (bg bu bd : Fin 1024 → EReal)
    (n : Fin 1024) : EReal :=
  lin (gated (normD x2 w b) Wg Wu bg bu) Wd bd n + x2 n

/-- The whole layer as the kernel computes it, entry `(i, n)`. -/
def layerK (x : Fin 2048 → Fin 1024 → EReal) (Wq Wk Wv Wo Wg Wu Wd : Fin 1024 → Fin 1024 → EReal)
    (bq bk bv bo bg bu bd w1 b1 w2 b2 : Fin 1024 → EReal) (i : Fin 2048) (n : Fin 1024) : EReal :=
  mlp (mid (attnK (fun i => lin (norm (x i) w1 b1) Wq bq) (fun i => lin (norm (x i) w1 b1) Wk bk)
    (fun i => lin (norm (x i) w1 b1) Wv bv) i) (x i) Wo bo) w2 b2 Wg Wu Wd bg bu bd n

/-- The whole layer as the reference computes it, entry `(i, n)`. -/
def layerR (x : Fin 2048 → Fin 1024 → EReal) (Wq Wk Wv Wo Wg Wu Wd : Fin 1024 → Fin 1024 → EReal)
    (bq bk bv bo bg bu bd w1 b1 w2 b2 : Fin 1024 → EReal) (i : Fin 2048) (n : Fin 1024) : EReal :=
  mlpD (mid (attnR (fun i => lin (normD (x i) w1 b1) Wq bq) (fun i => lin (normD (x i) w1 b1) Wk bk)
    (fun i => lin (normD (x i) w1 b1) Wv bv) i) (x i) Wo bo) w2 b2 Wg Wu Wd bg bu bd n

/-- The two layers agree where the first normalization's weights and the queries' and keys' weights are real. -/
theorem layerK_eq_layerR (x : Fin 2048 → Fin 1024 → EReal) {Wq Wk : Fin 1024 → Fin 1024 → EReal}
    (Wv Wo Wg Wu Wd : Fin 1024 → Fin 1024 → EReal) {bq bk w1 b1 : Fin 1024 → EReal} (bv bo bg bu bd w2 b2 : Fin 1024 → EReal)
    (hWq : ∀ n k, IsReal (Wq n k)) (hWk : ∀ n k, IsReal (Wk n k)) (hbq : ∀ n, IsReal (bq n)) (hbk : ∀ n, IsReal (bk n))
    (hw : ∀ n, IsReal (w1 n)) (hb : ∀ n, IsReal (b1 n)) (i : Fin 2048) (n : Fin 1024) :
    layerK x Wq Wk Wv Wo Wg Wu Wd bq bk bv bo bg bu bd w1 b1 w2 b2 i n
      = layerR x Wq Wk Wv Wo Wg Wu Wd bq bk bv bo bg bu bd w1 b1 w2 b2 i n := by
  have hn : ∀ f w b, normD f w b = norm f w b := fun f w b => (norm_eq_normD f w b).symm
  have hr : ∀ i k, IsReal (norm (x i) w1 b1 k) := fun i k => norm_isReal (x i) hw hb k
  unfold layerK layerR mlpD mlp
  simp only [hn]
  rw [attnK_eq_attnR (fun i n => lin_isReal (hr i) hWq hbq n) (fun i n => lin_isReal (hr i) hWk hbk n)]

end Cert.Proof.Spec

end
-- ==== Proof.Qkv.lean ====
/- The first kernel region: what one grid point leaves in its block, and the array of all of them. -/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Qkv

open Idealize.ShloMosaic Cert.KernelIdeal Cert.KernelIdeal.Gen
open scoped BigOperators

/-- The block a grid point leaves: each row normalized and projected three times, the projections side by side. -/
theorem out_apply (x0 : FVec Ideal S256x1024 .f32) (x1 x2 x3 : FVec Ideal S1024x1024 .bf16) (x4 : FVec Ideal S1x3072 .f32)
    (x5 x6 : FVec Ideal S1x1024 .f32) (j : S256x3072.Idx) :
    out0_7 (F := Ideal) x0 x1 x2 x3 x4 x5 x6 j
      = Spec.proj (fun k => x0 (ix2 (j 0) k)) (fun k => x5 (ix2 0 k)) (fun k => x6 (ix2 0 k))
          (Spec.stack (fun n k => x1 (ix2 n k)) (fun n k => x2 (ix2 n k)) (fun n k => x3 (ix2 n k)))
          (fun n => x4 (ix2 0 n)) (j 1) := by
  unfold_out out0_7
  refine View.canon_apply_of_pieces (Val := Elt Ideal) (e := .bf16) (S := S256x3072) (fun j => Spec.proj (fun k => x0 (ix2 (j 0) k)) (fun k => x5 (ix2 0 k)) (fun k => x6 (ix2 0 k))
          (Spec.stack (fun n k => x1 (ix2 n k)) (fun n k => x2 (ix2 n k)) (fun n k => x3 (ix2 n k)))
          (fun n => x4 (ix2 0 n)) (j 1)) _ ?_ j (cover0_7 _ _ _ j)
  intro p hp x
  simp only [List.mem_cons, List.not_mem_nil, or_false] at hp
  rcases hp with rfl | rfl | rfl
  · have e0 : r0_6.emb x 0 = x 0 := Fin.ext (by show 0 + 1 * (x 0).val = _; omega)
    have e1 : r0_6.emb x 1 = (⟨2048 + (x 1).val, by have : (x 1).val < 1024 := (x 1).isLt; omega⟩ : Fin 3072) :=
      Fin.ext (by show 2048 + 1 * (x 1).val = 2048 + (x 1).val; omega)
    dsimp only
    rw [e0, e1, Spec.proj, Spec.stack_trd _ _ _ (x 1)]
    pointwise [k0_pay2, k0_pay3, k0_pay4, Spec.norm, Spec.mean, Spec.var]
  · have e0 : r0_5.emb x 0 = x 0 := Fin.ext (by show 0 + 1 * (x 0).val = _; omega)
    have e1 : r0_5.emb x 1 = (⟨1024 + (x 1).val, by have : (x 1).val < 1024 := (x 1).isLt; omega⟩ : Fin 3072) :=
      Fin.ext (by show 1024 + 1 * (x 1).val = 1024 + (x 1).val; omega)
    dsimp only
    rw [e0, e1, Spec.proj, Spec.stack_snd _ _ _ (x 1)]
    pointwise [k0_pay1, k0_pay3, k0_pay4, Spec.norm, Spec.mean, Spec.var]
  · have e0 : r0_4.emb x 0 = x 0 := Fin.ext (by show 0 + 1 * (x 0).val = _; omega)
    have e1 : r0_4.emb x 1 = (⟨(x 1).val, by have : (x 1).val < 1024 := (x 1).isLt; omega⟩ : Fin 3072) :=
      Fin.ext (by show 0 + 1 * (x 1).val = (x 1).val; omega)
    dsimp only
    rw [e0, e1, Spec.proj, Spec.stack_fst _ _ _ (x 1)]
    pointwise [k0_pay5, k0_pay3, k0_pay4, Spec.norm, Spec.mean, Spec.var]

variable (V : (c : Dev nD) → (b : Ref sig .tc) → Buf (Elt Ideal) ((c.tc : Thread nD τ).loc b)) (c : Dev nD)

/-- What the region leaves in `main_v8`, of the arrays it reads. -/
def G (x0 : FVec Ideal S2048x1024 .f32) (x1 x2 x3 : FVec Ideal S1024x1024 .bf16) (x4 : FVec Ideal S1x3072 .f32)
    (x5 x6 : FVec Ideal S1x1024 .f32) : FVec Ideal S2048x3072 .bf16 := fun j =>
  Spec.proj (fun k => x0 (ix2 (j 0) k)) (fun k => x5 (ix2 0 k)) (fun k => x6 (ix2 0 k))
    (Spec.stack (fun n k => x1 (ix2 n k)) (fun n k => x2 (ix2 n k)) (fun n k => x3 (ix2 n k)))
    (fun n => x4 (ix2 0 n)) (j 1)

/-- Where the windows stand at a grid point. -/
theorem idx (t : Fin cfg0.N) : win0_0.index t = ![(grid0.coords t 0).val, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![(grid0.coords t 0).val, 0] := by
  revert t; decide +kernel

/-- The rows in a block, read where the array holds them. -/
theorem blk0 (t : Fin cfg0.N) (y : S256x3072.Idx) (k : Fin 1024) :
    iblk0 V c 0 t (ix2 (y 0) k) = V c main_v0 (ix2 ((win0_7.blk t).view.emb y 0) k) := by
  obtain ⟨e0, -, -, -, -, -, -, e7⟩ := idx t
  blk_ext [iblk0, e0, e7]

/-- The weights' blocks are the whole arrays. -/
theorem blk_mat (t : Fin cfg0.N) : (∀ n k : Fin 1024, iblk0 V c 1 t (ix2 n k) = V c main_v3 (ix2 n k))
    ∧ (∀ n k : Fin 1024, iblk0 V c 2 t (ix2 n k) = V c main_v4 (ix2 n k))
    ∧ (∀ n k : Fin 1024, iblk0 V c 3 t (ix2 n k) = V c main_v5 (ix2 n k)) := by
  obtain ⟨-, e1, e2, e3, -, -, -, -⟩ := idx t
  refine ⟨fun n k => ?_, fun n k => ?_, fun n k => ?_⟩ <;> blk_ext [iblk0, e1, e2, e3]

/-- So are those of the biases and of the normalization's parameters. -/
theorem blk_vec (t : Fin cfg0.N) : (∀ n : Fin 3072, iblk0 V c 4 t (ix2 0 n) = V c main_v2 (ix2 0 n))
    ∧ (∀ n : Fin 1024, iblk0 V c 5 t (ix2 0 n) = V c main_v6 (ix2 0 n))
    ∧ (∀ n : Fin 1024, iblk0 V c 6 t (ix2 0 n) = V c main_v7 (ix2 0 n)) := by
  obtain ⟨-, -, -, -, e4, e5, e6, -⟩ := idx t
  refine ⟨fun n => ?_, fun n => ?_, fun n => ?_⟩ <;> blk_ext [iblk0, e4, e5, e6]

/-- A grid point's block has all columns. -/
theorem blk7 (t : Fin cfg0.N) (y : S256x3072.Idx) : y 1 = (win0_7.blk t).view.emb y 1 := by
  obtain ⟨-, -, -, -, -, -, -, e⟩ := idx t
  apply Fin.ext
  blk_simp [e]

/-- The array that the region leaves in `main_v8`. -/
theorem arr : (dat0 V c).arrAt 7 cfg0.N
    = G (V c main_v0) (V c main_v3) (V c main_v4) (V c main_v5) (V c main_v2) (V c main_v6) (V c main_v7) := by
  refine (dat0 V c).arrAt_eq_of_covers 7 _ (by decide +kernel) fun t hf y => ?_
  blk_simp
  rw [after0_7, out_apply]
  obtain ⟨w1, w2, w3⟩ := blk_mat V c t
  obtain ⟨w4, w5, w6⟩ := blk_vec V c t
  exact Spec.proj_congr (blk0 V c t y) w5 w6 w1 w2 w3 w4 (blk7 t y)

end Cert.Proof.Qkv

end
-- ==== Proof.Attn.lean ====
/- The second kernel region: what one grid point leaves in its block, and the array of all of them. -/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Attn

open Idealize.ShloMosaic Cert.KernelIdeal Cert.KernelIdeal.Gen
open scoped BigOperators

/-- The printed comparison of the row number `512 a + r` with the column number `x` selects as `x ≤ 512 a + r` does. -/
theorem select_mask {α : Type} {a r x : Nat} (ha : a < 4) (hr : r < 512) (hx : x < 2048) (u v : α) :
    Scalar.select (IntOp.cmpi .sge (IntOp.addi (Scalar.muli (BitVec.ofNat 32 a) 512#32) (BitVec.ofNat 32 r)) (BitVec.ofNat 32 x)) u v
      = if x ≤ a * 512 + r then u else v := by
  have h : IntOp.addi (Scalar.muli (BitVec.ofNat 32 a) 512#32) (BitVec.ofNat 32 r) = BitVec.ofNat 32 (a * 512 + r) := by
    show IntOp.addi (IntOp.muli (BitVec.ofNat 32 a) (BitVec.ofNat 32 512)) _ = _
    rw [WordCmp.muli_ofNat, WordCmp.addi_ofNat]
  rw [h, WordCmp.cmpi_sge_ofNat (by omega) (by omega), WordCmp.select_decide]

/-- The idealized mask value is `⊥`. -/
theorem mask_eq : Named.named (F := Ideal) (φ := .f32) κ "mask" 0xF149F2CA#32 = ⊥ :=
  IdealRules.named_const.ideal_named_scalar _ _ _ _ rfl

/-- The block a grid point leaves: one row of attention per query row. -/
theorem out_apply (i : grid1.Coords) (x0 : FVec Ideal S1x512x64 .bf16) (x1 x2 : FVec Ideal S1x2048x64 .bf16) (j : S1x512x64.Idx)
    (n : Fin 2048) (hn : n.val = (i 1).val * 512 + (j 1).val) :
    out1_3 (F := Ideal) i x0 x1 x2 j
      = Spec.avgK (Spec.scoreK (fun d => x0 (ix3 0 (j 1) d)) (fun l d => x1 (ix3 0 l d)) n) (fun l => x2 (ix3 0 l (j 2))) := by
  have hi : (i 1).val < 4 := (i 1).isLt
  have hj : (j 1).val < 512 := (j 1).isLt
  frame_out
  pointwise [k1_pay1, Spec.avgK, Spec.weight, Spec.top, Spec.scoreK]
  simp only [Spec.neg_inf_f32, mask_eq, select_mask hi hj (Fin.isLt _), Fin.le_def, hn]

variable (V : (c : Dev nD) → (b : Ref sig .tc) → Buf (Elt Ideal) ((c.tc : Thread nD τ).loc b)) (c : Dev nD)

/-- What the region leaves in `main_v11`, of the 48 heads' array `x`: queries in the first 16, keys in the next 16,
    values in the last 16. -/
def G (x : FVec Ideal S48x2048x64 .bf16) : FVec Ideal S16x2048x64 .bf16 := fun j =>
  Spec.avgK (Spec.scoreK (fun d => x (ix3 ⟨(j 0).val, by have : (j 0).val < 16 := (j 0).isLt; omega⟩ (j 1) d))
      (fun l d => x (ix3 ⟨16 + (j 0).val, by have : (j 0).val < 16 := (j 0).isLt; omega⟩ l d)) (j 1))
    (fun l => x (ix3 ⟨32 + (j 0).val, by have : (j 0).val < 16 := (j 0).isLt; omega⟩ l (j 2)))

/-- Where the windows stand at a grid point. -/
theorem idx (t : Fin cfg1.N) : win1_0.index t = ![(grid1.coords t 0).val, (grid1.coords t 1).val, 0]
    ∧ win1_1.index t = ![16 + (grid1.coords t 0).val, 0, 0] ∧ win1_2.index t = ![32 + (grid1.coords t 0).val, 0, 0]
    ∧ win1_3.index t = ![(grid1.coords t 0).val, (grid1.coords t 1).val, 0] := by
  revert t; decide +kernel

/-- A block's query rows, read where the array holds them. -/
theorem blk0 (t : Fin cfg1.N) (y : S1x512x64.Idx) (d : Fin 64) (h) :
    iblk1 V c 0 t (ix3 0 (y 1) d) = V c main_v10 (ix3 ⟨((win1_3.blk t).view.emb y 0).val, h⟩ ((win1_3.blk t).view.emb y 1) d) := by
  obtain ⟨e0, -, -, e3⟩ := idx t
  blk_ext [iblk1, e0, e3]

/-- A head's keys: all rows. -/
theorem blk1 (t : Fin cfg1.N) (y : S1x512x64.Idx) (l : Fin 2048) (d : Fin 64) (h) :
    iblk1 V c 1 t (ix3 0 l d) = V c main_v10 (ix3 ⟨16 + ((win1_3.blk t).view.emb y 0).val, h⟩ l d) := by
  obtain ⟨-, e1, -, e3⟩ := idx t
  blk_ext [iblk1, e1, e3]

/-- A head's values: all rows. -/
theorem blk2 (t : Fin cfg1.N) (y : S1x512x64.Idx) (l : Fin 2048) (h) :
    iblk1 V c 2 t (ix3 0 l (y 2)) = V c main_v10 (ix3 ⟨32 + ((win1_3.blk t).view.emb y 0).val, h⟩ l ((win1_3.blk t).view.emb y 2)) := by
  obtain ⟨-, -, e2, e3⟩ := idx t
  blk_ext [iblk1, e2, e3]

/-- The query row that a block's row is. -/
theorem blk3 (t : Fin cfg1.N) (y : S1x512x64.Idx) :
    (((win1_3.blk t).view.emb y 1 : Fin 2048) : ℕ) = (grid1.coords t 1).val * 512 + (y 1).val := by
  obtain ⟨-, -, -, e3⟩ := idx t
  blk_simp [e3]

/-- The array that the region leaves in `main_v11`. -/
theorem arr : (dat1 V c).arrAt 3 cfg1.N = G (V c main_v10) := by
  refine (dat1 V c).arrAt_eq_of_covers 3 _ (by decide +kernel) fun t hf y => ?_
  blk_simp
  rw [after1_3]
  refine (out_apply _ _ _ _ y _ (blk3 t y)).trans ?_
  exact Spec.attn_congr (fun d => blk0 V c t y d _) (fun l d => blk1 V c t y l d _) (fun l => blk2 V c t y l _)

end Cert.Proof.Attn

end
-- ==== Proof.Mlp.lean ====
/- The third kernel region: what one grid point leaves in its block, and the array of all of them. -/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Mlp

open Idealize.ShloMosaic Cert.KernelIdeal Cert.KernelIdeal.Gen
open scoped BigOperators

/-- Sixteen blocks of 64 columns side by side, read at a column: the block and the column in it. -/
theorem concat_apply (f : Fin 16 → FVec Ideal S256x64 .bf16)
    (h : Shape.Concatenates ((List.ofFn fun n : Fin 16 => (⟨S256x64, f n⟩ : (s : Shape) × (s.Idx → Ideal .bf16))).map (·.1)) S256x1024 1)
    (r : Fin 256) (k : Fin 1024) :
    concatenate S256x1024 1 (List.ofFn fun n : Fin 16 => (⟨S256x64, f n⟩ : (s : Shape) × (s.Idx → Ideal .bf16))) h (ix2 r k)
      = f (Spec.head k) (ix2 r (Spec.lane k)) := by
  refine concatenate_ofFn_apply 1 f h rfl 64 rfl (ix2 r k) (Spec.head k) rfl (ix2 r (Spec.lane k)) rfl fun b hb => ?_
  match b, hb with
  | ⟨0, _⟩, _ => rfl
  | ⟨1, _⟩, hb => exact absurd rfl hb

/-- The row after attention, of sixteen heads' blocks `f`. -/
theorem heads_apply (f : Fin 16 → FVec Ideal S256x64 .bf16) (v22 v24 v26 v28 v30 : FVec Ideal S1x256x64 .bf16)
    (h11 : shapeCast S256x64 v22 shapeCasts_S1x256x64_S256x64 = f 11)
    (h12 : shapeCast S256x64 v24 shapeCasts_S1x256x64_S256x64 = f 12)
    (h13 : shapeCast S256x64 v26 shapeCasts_S1x256x64_S256x64 = f 13)
    (h14 : shapeCast S256x64 v28 shapeCasts_S1x256x64_S256x64 = f 14)
    (h15 : shapeCast S256x64 v30 shapeCasts_S1x256x64_S256x64 = f 15)
    (w : FVec Ideal S1024x1024 .bf16) (b : FVec Ideal S1x1024 .f32) (x : FVec Ideal S256x1024 .f32) (j : S256x1024.Idx) :
    k2_pay12 (F := Ideal) (f 0) (f 1) (f 2) (f 3) (f 4) (f 5) (f 6) (f 7) (f 8) (f 9) (f 10) v22 v24 v26 v28 v30 w b x j
      = Spec.mid (fun k => f (Spec.head k) (ix2 (j 0) (Spec.lane k))) (fun k => x (ix2 (j 0) k)) (fun n k => w (ix2 n k))
          (fun k => b (ix2 0 k)) (j 1) := by
  unfold k2_pay12
  rw [h11, h12, h13, h14, h15]
  have hc := concat_apply f concatenates_S256x64_S256x64_S256x64_S256x64_S256x64_S256x64_S256x64_S256x64_S256x64_S256x64_S256x64_S256x64_S256x64_S256x64_S256x64_S256x64_S256x1024_d1
  change ∀ r k, concatenate S256x1024 1 [⟨S256x64, f 0⟩, ⟨S256x64, f 1⟩, ⟨S256x64, f 2⟩, ⟨S256x64, f 3⟩, ⟨S256x64, f 4⟩, ⟨S256x64, f 5⟩, ⟨S256x64, f 6⟩, ⟨S256x64, f 7⟩, ⟨S256x64, f 8⟩, ⟨S256x64, f 9⟩, ⟨S256x64, f 10⟩, ⟨S256x64, f 11⟩, ⟨S256x64, f 12⟩, ⟨S256x64, f 13⟩, ⟨S256x64, f 14⟩, ⟨S256x64, f 15⟩] _ (ix2 r k) = _ at hc
  generalize concatenate S256x1024 1 [⟨S256x64, f 0⟩, ⟨S256x64, f 1⟩, ⟨S256x64, f 2⟩, ⟨S256x64, f 3⟩, ⟨S256x64, f 4⟩, ⟨S256x64, f 5⟩, ⟨S256x64, f 6⟩, ⟨S256x64, f 7⟩, ⟨S256x64, f 8⟩, ⟨S256x64, f 9⟩, ⟨S256x64, f 10⟩, ⟨S256x64, f 11⟩, ⟨S256x64, f 12⟩, ⟨S256x64, f 13⟩, ⟨S256x64, f 14⟩, ⟨S256x64, f 15⟩] _ = cc at hc ⊢
  rw [show (fun k => f (Spec.head k) (ix2 (j 0) (Spec.lane k))) = fun k => cc (ix2 (j 0) k) from funext fun k => (hc (j 0) k).symm]
  pointwise [Spec.mid, Spec.lin]

/-- Head `n`'s block. -/
def part (x0 : FVec Ideal S16x256x64 .bf16) (n : Fin 16) : FVec Ideal S256x64 .bf16 := fun l => x0 (ix3 n (l 0) (l 1))

/-- The blocks of the sixteen heads as the body loads them. -/
theorem parts (x0 : Vec Ideal S16x256x64 .bf16) : k2_pay1 (F := Ideal) (View.ld x0 r2_0) = part x0 0
    ∧ k2_pay2 (F := Ideal) (View.ld x0 r2_1) = part x0 1
    ∧ k2_pay3 (F := Ideal) (View.ld x0 r2_2) = part x0 2
    ∧ k2_pay4 (F := Ideal) (View.ld x0 r2_3) = part x0 3
    ∧ k2_pay5 (F := Ideal) (View.ld x0 r2_4) = part x0 4
    ∧ k2_pay6 (F := Ideal) (View.ld x0 r2_5) = part x0 5
    ∧ k2_pay7 (F := Ideal) (View.ld x0 r2_6) = part x0 6
    ∧ k2_pay8 (F := Ideal) (View.ld x0 r2_7) = part x0 7
    ∧ k2_pay9 (F := Ideal) (View.ld x0 r2_8) = part x0 8
    ∧ k2_pay10 (F := Ideal) (View.ld x0 r2_9) = part x0 9
    ∧ k2_pay11 (F := Ideal) (View.ld x0 r2_10) = part x0 10
    ∧ shapeCast S256x64 (View.ld x0 r2_11 : Vec Ideal S1x256x64 .bf16) shapeCasts_S1x256x64_S256x64 = part x0 11
    ∧ shapeCast S256x64 (View.ld x0 r2_12 : Vec Ideal S1x256x64 .bf16) shapeCasts_S1x256x64_S256x64 = part x0 12
    ∧ shapeCast S256x64 (View.ld x0 r2_13 : Vec Ideal S1x256x64 .bf16) shapeCasts_S1x256x64_S256x64 = part x0 13
    ∧ shapeCast S256x64 (View.ld x0 r2_14 : Vec Ideal S1x256x64 .bf16) shapeCasts_S1x256x64_S256x64 = part x0 14
    ∧ shapeCast S256x64 (View.ld x0 r2_15 : Vec Ideal S1x256x64 .bf16) shapeCasts_S1x256x64_S256x64 = part x0 15 := by
  refine ⟨?_, ?_, ?_, ?_, ?_, ?_, ?_, ?_, ?_, ?_, ?_, ?_, ?_, ?_, ?_, ?_⟩ <;>
    (funext l; pointwise [k2_pay1, k2_pay2, k2_pay3, k2_pay4, k2_pay5, k2_pay6, k2_pay7, k2_pay8, k2_pay9, k2_pay10, k2_pay11, part])

/-- The row after attention, of the heads' blocks as the body loads them. -/
theorem mid_apply (x0 : FVec Ideal S16x256x64 .bf16) (w : FVec Ideal S1024x1024 .bf16) (b : FVec Ideal S1x1024 .f32)
    (x : FVec Ideal S256x1024 .f32) (j : S256x1024.Idx) :
    k2_pay12 (F := Ideal) (k2_pay1 (View.ld x0 r2_0)) (k2_pay2 (View.ld x0 r2_1)) (k2_pay3 (View.ld x0 r2_2)) (k2_pay4 (View.ld x0 r2_3)) (k2_pay5 (View.ld x0 r2_4)) (k2_pay6 (View.ld x0 r2_5)) (k2_pay7 (View.ld x0 r2_6)) (k2_pay8 (View.ld x0 r2_7)) (k2_pay9 (View.ld x0 r2_8)) (k2_pay10 (View.ld x0 r2_9)) (k2_pay11 (View.ld x0 r2_10))
      (View.ld x0 r2_11) (View.ld x0 r2_12) (View.ld x0 r2_13) (View.ld x0 r2_14) (View.ld x0 r2_15) w b x j
      = Spec.mid (fun k => x0 (ix3 (Spec.head k) (j 0) (Spec.lane k))) (fun k => x (ix2 (j 0) k)) (fun n k => w (ix2 n k))
          (fun k => b (ix2 0 k)) (j 1) := by
  obtain ⟨h0, h1, h2, h3, h4, h5, h6, h7, h8, h9, h10, h11, h12, h13, h14, h15⟩ := parts x0
  rw [h0, h1, h2, h3, h4, h5, h6, h7, h8, h9, h10]
  exact heads_apply (part x0) _ _ _ _ _ h11 h12 h13 h14 h15 w b x j

/-- The rest of the body: normalization, gate and second projection of the rows `X` after attention. -/
theorem rest_apply (X : FVec Ideal S256x1024 .f32) (x4 x6 x8 : FVec Ideal S1024x1024 .bf16)
    (x5 x7 x9 x10 x11 : FVec Ideal S1x1024 .f32) (m s : FVec Ideal S256x1 .f32)
    (hm : ∀ l, m l = Spec.mean fun k => X (ix2 (l 0) k))
    (hs : ∀ l, Ideal.div (s l) (Ideal.ofBits .f32 0x44800000#32) = Spec.var fun k => X (ix2 (l 0) k)) (j : S256x1024.Idx) :
    k2_pay17 (F := Ideal) X (k2_pay13 x10) (k2_pay14 x11) m s (Scalar.ofBits .f32 0x44800000#32) x4 x5 x6 x7 x8 x9 j
      = Spec.mlp (fun k => X (ix2 (j 0) k)) (fun k => x10 (ix2 0 k)) (fun k => x11 (ix2 0 k))
          (fun n k => x4 (ix2 n k)) (fun n k => x6 (ix2 n k)) (fun n k => x8 (ix2 n k))
          (fun k => x5 (ix2 0 k)) (fun k => x7 (ix2 0 k)) (fun k => x9 (ix2 0 k)) (j 1) := by
  have hn : Spec.norm (fun k => X (ix2 (j 0) k)) (fun k => x10 (ix2 0 k)) (fun k => x11 (ix2 0 k)) = fun k : Fin 1024 =>
      (X (ix2 (j 0) k) - m (ix2 (j 0) 0)) * Ideal.rsqrt (Ideal.div (s (ix2 (j 0) 0)) (Ideal.ofBits .f32 0x44800000#32)
        + Ideal.ofBits .f32 0x358637BD#32) * x10 (ix2 0 k) + x11 (ix2 0 k) :=
    funext fun k => by rw [Spec.norm, hm, hs]; rfl
  unfold Spec.mlp
  rw [hn]
  pointwise [k2_pay17, k2_pay13, k2_pay14, Spec.gated, Spec.lin]

/-- The block a grid point leaves. -/
theorem out_apply (x0 : FVec Ideal S16x256x64 .bf16) (x1 : FVec Ideal S256x1024 .f32) (x2 : FVec Ideal S1024x1024 .bf16)
    (x3 : FVec Ideal S1x1024 .f32) (x4 : FVec Ideal S1024x1024 .bf16) (x5 : FVec Ideal S1x1024 .f32)
    (x6 : FVec Ideal S1024x1024 .bf16) (x7 : FVec Ideal S1x1024 .f32) (x8 : FVec Ideal S1024x1024 .bf16)
    (x9 x10 x11 : FVec Ideal S1x1024 .f32) (j : S256x1024.Idx) :
    out2_12 (F := Ideal) x0 x1 x2 x3 x4 x5 x6 x7 x8 x9 x10 x11 j
      = Spec.mlp (Spec.mid (fun k => x0 (ix3 (Spec.head k) (j 0) (Spec.lane k))) (fun k => x1 (ix2 (j 0) k))
            (fun n k => x2 (ix2 n k)) (fun k => x3 (ix2 0 k)))
          (fun k => x10 (ix2 0 k)) (fun k => x11 (ix2 0 k))
          (fun n k => x4 (ix2 n k)) (fun n k => x6 (ix2 n k)) (fun n k => x8 (ix2 n k))
          (fun k => x5 (ix2 0 k)) (fun k => x7 (ix2 0 k)) (fun k => x9 (ix2 0 k)) (j 1) := by
  frame_out
  refine (rest_apply _ x4 x6 x8 x5 x7 x9 x10 x11 _ _ (fun l => ?_) (fun l => ?_) j).trans ?_
  · pointwise [k2_pay15, Spec.mean]
  · pointwise [k2_pay16, k2_pay15, Spec.var, Spec.mean]
  · exact congrArg (Spec.mlp · _ _ _ _ _ _ _ _ _) (funext fun k => mid_apply x0 x2 x3 x1 (ix2 (j 0) k))

variable (V : (c : Dev nD) → (b : Ref sig .tc) → Buf (Elt Ideal) ((c.tc : Thread nD τ).loc b)) (c : Dev nD)

/-- What the region leaves in `main_v22`, of the arrays it reads. -/
def G (x0 : FVec Ideal S16x2048x64 .bf16) (x1 : FVec Ideal S2048x1024 .f32) (x2 : FVec Ideal S1024x1024 .bf16)
    (x3 : FVec Ideal S1x1024 .f32) (x4 : FVec Ideal S1024x1024 .bf16) (x5 : FVec Ideal S1x1024 .f32)
    (x6 : FVec Ideal S1024x1024 .bf16) (x7 : FVec Ideal S1x1024 .f32) (x8 : FVec Ideal S1024x1024 .bf16)
    (x9 x10 x11 : FVec Ideal S1x1024 .f32) : FVec Ideal S2048x1024 .f32 := fun j =>
  Spec.mlp (Spec.mid (fun k => x0 (ix3 (Spec.head k) (j 0) (Spec.lane k))) (fun k => x1 (ix2 (j 0) k))
      (fun n k => x2 (ix2 n k)) (fun k => x3 (ix2 0 k)))
    (fun k => x10 (ix2 0 k)) (fun k => x11 (ix2 0 k))
    (fun n k => x4 (ix2 n k)) (fun n k => x6 (ix2 n k)) (fun n k => x8 (ix2 n k))
    (fun k => x5 (ix2 0 k)) (fun k => x7 (ix2 0 k)) (fun k => x9 (ix2 0 k)) (j 1)

/-- Where the windows stand at a grid point. -/
theorem idx (t : Fin cfg2.N) : win2_0.index t = ![0, (grid2.coords t 0).val, 0]
    ∧ win2_1.index t = ![(grid2.coords t 0).val, 0]
    ∧ win2_2.index t = ![0, 0]
    ∧ win2_3.index t = ![0, 0]
    ∧ win2_4.index t = ![0, 0]
    ∧ win2_5.index t = ![0, 0]
    ∧ win2_6.index t = ![0, 0]
    ∧ win2_7.index t = ![0, 0]
    ∧ win2_8.index t = ![0, 0]
    ∧ win2_9.index t = ![0, 0]
    ∧ win2_10.index t = ![0, 0]
    ∧ win2_11.index t = ![0, 0]
    ∧ win2_12.index t = ![(grid2.coords t 0).val, 0] := by
  revert t; decide +kernel

/-- The heads' rows in a block, read where the array holds them. -/
theorem blk0 (t : Fin cfg2.N) (y : S256x1024.Idx) (n : Fin 16) (d : Fin 64) :
    iblk2 V c 0 t (ix3 n (y 0) d) = V c main_v11 (ix3 n ((win2_12.blk t).view.emb y 0) d) := by
  obtain ⟨e0, -, -, -, -, -, -, -, -, -, -, -, e12⟩ := idx t
  blk_ext [iblk2, e0, e12]

/-- The layer's input rows in a block. -/
theorem blk1 (t : Fin cfg2.N) (y : S256x1024.Idx) (k : Fin 1024) :
    iblk2 V c 1 t (ix2 (y 0) k) = V c main_v0 (ix2 ((win2_12.blk t).view.emb y 0) k) := by
  obtain ⟨-, e1, -, -, -, -, -, -, -, -, -, -, e12⟩ := idx t
  blk_ext [iblk2, e1, e12]

/-- The weights' blocks are the whole arrays. -/
theorem blk_mat (t : Fin cfg2.N) : (∀ n k : Fin 1024, iblk2 V c 2 t (ix2 n k) = V c main_v12 (ix2 n k))
    ∧ (∀ n k : Fin 1024, iblk2 V c 4 t (ix2 n k) = V c main_v14 (ix2 n k))
    ∧ (∀ n k : Fin 1024, iblk2 V c 6 t (ix2 n k) = V c main_v16 (ix2 n k))
    ∧ (∀ n k : Fin 1024, iblk2 V c 8 t (ix2 n k) = V c main_v18 (ix2 n k)) := by
  obtain ⟨-, -, e2, -, e4, -, e6, -, e8, -, -, -, -⟩ := idx t
  refine ⟨fun n k => ?_, fun n k => ?_, fun n k => ?_, fun n k => ?_⟩ <;> blk_ext [iblk2, e2, e4, e6, e8]

/-- So are those of the biases and of the normalization's parameters. -/
theorem blk_vec (t : Fin cfg2.N) : (∀ n : Fin 1024, iblk2 V c 3 t (ix2 0 n) = V c main_v13 (ix2 0 n))
    ∧ (∀ n : Fin 1024, iblk2 V c 5 t (ix2 0 n) = V c main_v15 (ix2 0 n))
    ∧ (∀ n : Fin 1024, iblk2 V c 7 t (ix2 0 n) = V c main_v17 (ix2 0 n))
    ∧ (∀ n : Fin 1024, iblk2 V c 9 t (ix2 0 n) = V c main_v19 (ix2 0 n))
    ∧ (∀ n : Fin 1024, iblk2 V c 10 t (ix2 0 n) = V c main_v20 (ix2 0 n))
    ∧ (∀ n : Fin 1024, iblk2 V c 11 t (ix2 0 n) = V c main_v21 (ix2 0 n)) := by
  obtain ⟨-, -, -, e3, -, e5, -, e7, -, e9, e10, e11, -⟩ := idx t
  refine ⟨fun n => ?_, fun n => ?_, fun n => ?_, fun n => ?_, fun n => ?_, fun n => ?_⟩ <;> blk_ext [iblk2, e3, e5, e7, e9, e10, e11]

/-- A grid point's block has all columns. -/
theorem blk12 (t : Fin cfg2.N) (y : S256x1024.Idx) : y 1 = (win2_12.blk t).view.emb y 1 := by
  obtain ⟨-, -, -, -, -, -, -, -, -, -, -, -, e12⟩ := idx t
  apply Fin.ext
  blk_simp [e12]

/-- The array that the region leaves in `main_v22`. -/
theorem arr : (dat2 V c).arrAt 12 cfg2.N
    = G (V c main_v11) (V c main_v0) (V c main_v12) (V c main_v13) (V c main_v14) (V c main_v15) (V c main_v16)
        (V c main_v17) (V c main_v18) (V c main_v19) (V c main_v20) (V c main_v21) := by
  refine (dat2 V c).arrAt_eq_of_covers 12 _ (by decide +kernel) fun t hf y => ?_
  blk_simp
  rw [after2_12, out_apply]
  obtain ⟨w2, w4, w6, w8⟩ := blk_mat V c t
  obtain ⟨w3, w5, w7, w9, w10, w11⟩ := blk_vec V c t
  exact Spec.mlp_congr (fun k => Spec.mid_congr (fun k => blk0 V c t y _ _) (blk1 V c t y) w2 w3 k)
    w10 w11 w4 w6 w8 w5 w7 w9 (blk12 t y)

end Cert.Proof.Mlp

end
-- ==== Proof.Host.lean ====
/- The host code around the three regions: what each buffer that a region reads holds, of the program's arguments. -/
module

public import proofs.«01_k».proof.Proof.Qkv
public import proofs.«01_k».proof.Proof.Attn
public import proofs.«01_k».proof.Proof.Mlp

@[expose] public section

set_option maxRecDepth 16384

noncomputable section

namespace Cert.Proof.Host

open Idealize.ShloMosaic Idealize.ShloMosaic.TcCoe Cert.KernelIdeal Cert.KernelIdeal.Gen
open scoped BigOperators

/-- Entry `k` of the argument's row `i`. -/
abbrev row (m : (ℓ : Loc nD τ sig) → Buf (Elt Ideal) ℓ) (c : Dev nD) (i : Fin 2048) (k : Fin 1024) : EReal :=
  (m (c.tc.loc main_arg0) : Vec Ideal S1x2048x1024 .f32) (ix3 0 i k)

/-- A matrix's entries. -/
abbrev mat (m : FVec Ideal S1024x1024 .f32) (n k : Fin 1024) : EReal := m (ix2 n k)

/-- A vector's entries. -/
abbrev vec (m : FVec Ideal S1024 .f32) (n : Fin 1024) : EReal := m (ix1 n)

variable (m : (ℓ : Loc nD τ sig) → Buf (Elt Ideal) ℓ) (ρ : Dev nD → PrngReg) (c : Dev nD)

/-- The first region's rows are the argument's. -/
theorem v0 (i : Fin 2048) (k : Fin 1024) : (V1 m ρ c main_v0 : Vec Ideal S2048x1024 .f32) (ix2 i k) = row m c i k := by
  unfold_abbrev_sides
  after_results
  pointwise []

/-- The three biases end to end. -/
theorem v2 (n : Fin 3072) : (V1 m ρ c main_v2 : Vec Ideal S1x3072 .f32) (ix2 0 n)
    = Spec.stack (vec (m (c.tc.loc main_arg2))) (vec (m (c.tc.loc main_arg4))) (vec (m (c.tc.loc main_arg6))) n := by
  unfold_abbrev_sides
  after_results
  pointwise []
  rw [StableHlo.reshape_result_ne (r := main_arg2) (h := by decide), StableHlo.reshape_result_ne (r := main_arg4) (h := by decide),
    StableHlo.reshape_result_ne (r := main_arg6) (h := by decide)]
  unfold Spec.stack
  by_cases h : n.val < 1024
  · rw [dif_pos h, dif_pos h]
  · rw [dif_neg h, dif_neg h]
    by_cases h' : n.val - 1024 < 1024
    · rw [dif_pos h', dif_pos (by omega)]
    · rw [dif_neg h', dif_neg (by omega)]
      exact congrArg (vec (m (c.tc.loc main_arg6))) (Fin.ext (by show n.val - 1024 - 1024 = n.val - 2048; omega))

/-- The first region's weights are the arguments. -/
theorem mats1 : (∀ n k : Fin 1024, (V1 m ρ c main_v3 : Vec Ideal S1024x1024 .bf16) (ix2 n k) = mat (m (c.tc.loc main_arg1)) n k)
    ∧ (∀ n k : Fin 1024, (V1 m ρ c main_v4 : Vec Ideal S1024x1024 .bf16) (ix2 n k) = mat (m (c.tc.loc main_arg3)) n k)
    ∧ (∀ n k : Fin 1024, (V1 m ρ c main_v5 : Vec Ideal S1024x1024 .bf16) (ix2 n k) = mat (m (c.tc.loc main_arg5)) n k) := by
  refine ⟨fun n k => ?_, fun n k => ?_, fun n k => ?_⟩ <;>
    (unfold_abbrev_sides; after_results; pointwise [])

/-- So are the first normalization's parameters. -/
theorem vecs1 : (∀ n : Fin 1024, (V1 m ρ c main_v6 : Vec Ideal S1x1024 .f32) (ix2 0 n) = vec (m (c.tc.loc main_arg15)) n)
    ∧ (∀ n : Fin 1024, (V1 m ρ c main_v7 : Vec Ideal S1x1024 .f32) (ix2 0 n) = vec (m (c.tc.loc main_arg16)) n) := by
  refine ⟨fun n => ?_, fun n => ?_⟩ <;>
    (unfold_abbrev_sides; after_results; pointwise [])

/-- The first region's result: the three projections side by side. -/
theorem v8 (i : Fin 2048) (n : Fin 3072) : (V2 m ρ c main_v8 : Vec Ideal S2048x3072 .bf16) (ix2 i n)
    = Spec.proj (row m c i) (vec (m (c.tc.loc main_arg15))) (vec (m (c.tc.loc main_arg16))) (Spec.stack (mat (m (c.tc.loc main_arg1))) (mat (m (c.tc.loc main_arg3))) (mat (m (c.tc.loc main_arg5))))
        (Spec.stack (vec (m (c.tc.loc main_arg2))) (vec (m (c.tc.loc main_arg4))) (vec (m (c.tc.loc main_arg6)))) n := by
  refine (congrFun ((W2_arr m ρ c 7).trans (Qkv.arr (V1 m ρ) c)) (ix2 i n)).trans ?_
  obtain ⟨v3, v4, v5⟩ := mats1 m ρ c
  obtain ⟨v6, v7⟩ := vecs1 m ρ c
  exact Spec.proj_congr (v0 m ρ c i) v6 v7 v3 v4 v5 (v2 m ρ c) rfl

/-- The heads' array: head `h` holds 64 columns of the projections. -/
theorem v10 (h : Fin 48) (i : Fin 2048) (d : Fin 64) : (V3 m ρ c main_v10 : Vec Ideal S48x2048x64 .bf16) (ix3 h i d)
    = (V2 m ρ c main_v8 : Vec Ideal S2048x3072 .bf16) (ix2 i ⟨h.val * 64 + d.val, by omega⟩) := by
  unfold_abbrev_sides
  after_results
  pointwise []

/-- The queries of head `h`, of the arguments. -/
theorem query (h : Fin 16) (i : Fin 2048) (d : Fin 64) : (V3 m ρ c main_v10 : Vec Ideal S48x2048x64 .bf16) (ix3 ⟨h.val, by omega⟩ i d)
    = Spec.lin (Spec.norm (row m c i) (vec (m (c.tc.loc main_arg15))) (vec (m (c.tc.loc main_arg16)))) (mat (m (c.tc.loc main_arg1))) (vec (m (c.tc.loc main_arg2))) (Spec.col h d) := by
  rw [v10, v8, Spec.proj]
  have e := Spec.stack_fst (mat (m (c.tc.loc main_arg1))) (mat (m (c.tc.loc main_arg3))) (mat (m (c.tc.loc main_arg5))) (Spec.col h d) (by omega)
  have e' := Spec.stack_fst (vec (m (c.tc.loc main_arg2))) (vec (m (c.tc.loc main_arg4))) (vec (m (c.tc.loc main_arg6))) (Spec.col h d) (by omega)
  exact congrArg₂ (fun W b => ∑ k, Spec.norm (row m c i) (vec (m (c.tc.loc main_arg15))) (vec (m (c.tc.loc main_arg16))) k * W k + b) e e'

/-- The keys of head `h`. -/
theorem key (h : Fin 16) (i : Fin 2048) (d : Fin 64) : (V3 m ρ c main_v10 : Vec Ideal S48x2048x64 .bf16) (ix3 ⟨16 + h.val, by omega⟩ i d)
    = Spec.lin (Spec.norm (row m c i) (vec (m (c.tc.loc main_arg15))) (vec (m (c.tc.loc main_arg16)))) (mat (m (c.tc.loc main_arg3))) (vec (m (c.tc.loc main_arg4))) (Spec.col h d) := by
  have hn : (⟨(16 + h.val) * 64 + d.val, by omega⟩ : Fin 3072) = ⟨1024 + (Spec.col h d).val, by omega⟩ :=
    Fin.ext (by show (16 + h.val) * 64 + d.val = 1024 + (h.val * 64 + d.val); omega)
  rw [v10, v8, Spec.proj, hn, Spec.stack_snd, Spec.stack_snd]
  rfl

/-- The values of head `h`. -/
theorem value (h : Fin 16) (i : Fin 2048) (d : Fin 64) : (V3 m ρ c main_v10 : Vec Ideal S48x2048x64 .bf16) (ix3 ⟨32 + h.val, by omega⟩ i d)
    = Spec.lin (Spec.norm (row m c i) (vec (m (c.tc.loc main_arg15))) (vec (m (c.tc.loc main_arg16)))) (mat (m (c.tc.loc main_arg5))) (vec (m (c.tc.loc main_arg6))) (Spec.col h d) := by
  have hn : (⟨(32 + h.val) * 64 + d.val, by omega⟩ : Fin 3072) = ⟨2048 + (Spec.col h d).val, by omega⟩ :=
    Fin.ext (by show (32 + h.val) * 64 + d.val = 2048 + (h.val * 64 + d.val); omega)
  rw [v10, v8, Spec.proj, hn, Spec.stack_trd, Spec.stack_trd]
  rfl

/-- The second region's result, of the arguments: the attention row, its columns by heads. -/
theorem v11 (i : Fin 2048) (n : Fin 1024) : (V5 m ρ c main_v11 : Vec Ideal S16x2048x64 .bf16) (ix3 (Spec.head n) i (Spec.lane n))
    = Spec.attnK (fun i => Spec.lin (Spec.norm (row m c i) (vec (m (c.tc.loc main_arg15))) (vec (m (c.tc.loc main_arg16)))) (mat (m (c.tc.loc main_arg1))) (vec (m (c.tc.loc main_arg2))))
        (fun i => Spec.lin (Spec.norm (row m c i) (vec (m (c.tc.loc main_arg15))) (vec (m (c.tc.loc main_arg16)))) (mat (m (c.tc.loc main_arg3))) (vec (m (c.tc.loc main_arg4))))
        (fun i => Spec.lin (Spec.norm (row m c i) (vec (m (c.tc.loc main_arg15))) (vec (m (c.tc.loc main_arg16)))) (mat (m (c.tc.loc main_arg5))) (vec (m (c.tc.loc main_arg6)))) i n := by
  refine (congrFun ((W5_of m ρ c main_v11 (by decide)).trans ((W4_arr m ρ c 3).trans (Attn.arr (V3 m ρ) c))) _).trans ?_
  exact Spec.attn_congr (fun d => query m ρ c _ i d) (fun j d => key m ρ c _ j d)
    (fun j => (value m ρ c _ j _).trans (congrArg (Spec.lin _ _ _) (Spec.col_head_lane n)))

/-- The third region reads the same rows as the first. -/
theorem v0' (i : Fin 2048) (k : Fin 1024) : (V5 m ρ c main_v0 : Vec Ideal S2048x1024 .f32) (ix2 i k) = row m c i k :=
  (congrFun ((W5_of m ρ c main_v0 (by decide)).trans ((W4_of m ρ c main_v0 (by decide)).trans
    ((W3_of m ρ c main_v0 (by decide)).trans (W2_of m ρ c main_v0 (by decide))))) (ix2 i k)).trans (v0 m ρ c i k)

/-- The third region's weights are the arguments. -/
theorem mats3 : (∀ n k : Fin 1024, (V5 m ρ c main_v12 : Vec Ideal S1024x1024 .bf16) (ix2 n k) = mat (m (c.tc.loc main_arg7)) n k)
    ∧ (∀ n k : Fin 1024, (V5 m ρ c main_v14 : Vec Ideal S1024x1024 .bf16) (ix2 n k) = mat (m (c.tc.loc main_arg9)) n k)
    ∧ (∀ n k : Fin 1024, (V5 m ρ c main_v16 : Vec Ideal S1024x1024 .bf16) (ix2 n k) = mat (m (c.tc.loc main_arg11)) n k)
    ∧ (∀ n k : Fin 1024, (V5 m ρ c main_v18 : Vec Ideal S1024x1024 .bf16) (ix2 n k) = mat (m (c.tc.loc main_arg13)) n k) := by
  refine ⟨fun n k => ?_, fun n k => ?_, fun n k => ?_, fun n k => ?_⟩ <;>
    (unfold_abbrev_sides; after_results; rw [W4_args m ρ c _ ?_]; pointwise []; decide)

/-- So are its biases and the second normalization's parameters. -/
theorem vecs3 : (∀ n : Fin 1024, (V5 m ρ c main_v13 : Vec Ideal S1x1024 .f32) (ix2 0 n) = vec (m (c.tc.loc main_arg8)) n)
    ∧ (∀ n : Fin 1024, (V5 m ρ c main_v15 : Vec Ideal S1x1024 .f32) (ix2 0 n) = vec (m (c.tc.loc main_arg10)) n)
    ∧ (∀ n : Fin 1024, (V5 m ρ c main_v17 : Vec Ideal S1x1024 .f32) (ix2 0 n) = vec (m (c.tc.loc main_arg12)) n)
    ∧ (∀ n : Fin 1024, (V5 m ρ c main_v19 : Vec Ideal S1x1024 .f32) (ix2 0 n) = vec (m (c.tc.loc main_arg14)) n)
    ∧ (∀ n : Fin 1024, (V5 m ρ c main_v20 : Vec Ideal S1x1024 .f32) (ix2 0 n) = vec (m (c.tc.loc main_arg17)) n)
    ∧ (∀ n : Fin 1024, (V5 m ρ c main_v21 : Vec Ideal S1x1024 .f32) (ix2 0 n) = vec (m (c.tc.loc main_arg18)) n) := by
  refine ⟨fun n => ?_, fun n => ?_, fun n => ?_, fun n => ?_, fun n => ?_, fun n => ?_⟩ <;>
    (unfold_abbrev_sides; after_results; rw [W4_args m ρ c _ ?_]; pointwise []; decide)

/-- The program's result, of its arguments: the layer. -/
theorem v23 (i : Fin 2048) (n : Fin 1024) : (W7 m ρ c (Proc.devRef .tc main_v23) : Vec Ideal S1x2048x1024 .f32) (ix3 0 i n)
    = Spec.layerK (row m c) (mat (m (c.tc.loc main_arg1))) (mat (m (c.tc.loc main_arg3))) (mat (m (c.tc.loc main_arg5))) (mat (m (c.tc.loc main_arg7))) (mat (m (c.tc.loc main_arg9))) (mat (m (c.tc.loc main_arg11))) (mat (m (c.tc.loc main_arg13)))
        (vec (m (c.tc.loc main_arg2))) (vec (m (c.tc.loc main_arg4))) (vec (m (c.tc.loc main_arg6))) (vec (m (c.tc.loc main_arg8))) (vec (m (c.tc.loc main_arg10))) (vec (m (c.tc.loc main_arg12))) (vec (m (c.tc.loc main_arg14)))
        (vec (m (c.tc.loc main_arg15))) (vec (m (c.tc.loc main_arg16))) (vec (m (c.tc.loc main_arg17))) (vec (m (c.tc.loc main_arg18))) i n := by
  have e : (W7 m ρ c (Proc.devRef .tc main_v23) : Vec Ideal S1x2048x1024 .f32) (ix3 0 i n)
      = (W6 m ρ c (Proc.devRef .tc main_v22) : Vec Ideal S2048x1024 .f32) (ix2 i n) := by
    unfold_abbrev_sides
    after_results
    pointwise []
  refine e.trans ((congrFun ((W6_arr m ρ c 12).trans (Mlp.arr (V5 m ρ) c)) (ix2 i n)).trans ?_)
  obtain ⟨v12, v14, v16, v18⟩ := mats3 m ρ c
  obtain ⟨v13, v15, v17, v19, v20, v21⟩ := vecs3 m ρ c
  exact Spec.mlp_congr (Spec.mid_congr (v11 m ρ c i) (v0' m ρ c i) v12 v13) v20 v21 v14 v16 v18 v15 v17 v19 rfl

end Cert.Proof.Host

end
-- ==== Proof.Run.lean ====
/- The run of the program read on exact numbers: what every buffer of the device holds at the end. -/
module

public import proofs.«01_k».proof.Proof.Host

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with each device buffer at the contents that the host code and the three regions leave. -/
theorem ends : θ_run defs (onTc (τ := τ) (main (F := Ideal))) ⟨m, fun _ => 0, ρ⟩ (fun r =>
    ∀ c : Dev nD, ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.Proof.Run

end
-- ==== Proof.RefNorm.lean ====
/- The reference's two normalizations, read at an entry. -/
module

public import proofs.«01_k».proof.Proof.Spec
public import proofs.«01_k».proof.Proof.Gen.ReferenceIdeal.Read
public import Idealize.ShloMosaic.Lib.Pointwise

@[expose] public section

set_option maxRecDepth 16384

noncomputable section

namespace Cert.Proof.Ref

open Idealize.ShloMosaic Cert.ReferenceIdeal Cert.ReferenceIdeal.Read
open scoped BigOperators

/-- The count of a row's entries less the correction zero is the count. -/
theorem count_sub : Ideal.ofBits .f32 0x44800000#32 - FloatOps.sitofp (F := Ideal) .f32 0#32 = Ideal.ofBits .f32 0x44800000#32 := by
  have e : FloatOps.sitofp (F := Ideal) .f32 0#32 = ((((0#32 : BitVec 32).toInt : ℝ)) : EReal) := rfl
  rw [e]; simp

/-- The count is positive. -/
theorem count_pos : (0 : EReal) < Ideal.ofBits .f32 0x44800000#32 := by
  rw [Spec.count_eq]; exact_mod_cast (by norm_num : (0:ℝ) < 1024)

/-- The reference's mean of row `i`. -/
theorem v3 (x0 : FVec Ideal S1x2048x1024 .f32) (j : S1x2048x1.Idx) :
    val_main_v3 (F := Ideal) x0 j = Spec.mean fun k => x0 (ix3 0 (j 1) k) := by
  pointwise [val_main_v3, val_main_v2, val_main_v1, val_main_v0, val_main_cst, val_main_cst_0, Spec.mean]

/-- The reference's variance of row `i`. -/
theorem v4 (x0 : FVec Ideal S1x2048x1024 .f32) (j : S1x2048x1.Idx) :
    val_main_v4 (F := Ideal) x0 j = Spec.var fun k => x0 (ix3 0 (j 1) k) := by
  pointwise [val_main_v4, val_main_call0_cst, val_main_call0_v0, val_main_call0_v1, val_main_call0_cst_0,
    val_main_call0_v2, val_main_call0_v3, val_main_call0_v4, val_main_call0_v5, val_main_call0_v6, val_main_call0_v7,
    val_main_call0_cst_1, val_main_call0_v8, val_main_call0_cst_2, val_main_call0_v9, val_main_call0_v10, val_main_c,
    val_main_call0_v11, val_main_call0_v12, val_main_call0_cst_3, val_main_call0_v13, val_main_call0_cst_4,
    val_main_call0_call0_v0, val_main_call0_call0_v1, Spec.var, Spec.mean]
  rw [count_sub, if_pos count_pos]

/-- The reference's first normalization. -/
theorem v17 (x0 : FVec Ideal S1x2048x1024 .f32) (x15 x16 : FVec Ideal S1024 .f32) (i : Fin 2048) (k : Fin 1024) :
    val_main_v17 (F := Ideal) x0 x15 x16 (ix3 0 i k)
      = Spec.normD (fun k => x0 (ix3 0 i k)) (fun k => x15 (ix1 k)) (fun k => x16 (ix1 k)) k := by
  pointwise [val_main_v5, val_main_v6, val_main_v7, val_main_v8, val_main_v9, val_main_v10, val_main_v11, val_main_v12,
    val_main_v13, val_main_v14, val_main_v15, val_main_v16, val_main_v17, val_main_cst_1]
  rw [v3, v4]
  rfl

/-- The reference's second normalization, of the rows after attention. -/
theorem v82 (x0 : FVec Ideal S1x2048x1024 .f32) (x1 x3 x5 x7 : FVec Ideal S1024x1024 .f32) (x2 x4 x6 x8 x15 x16 x17 x18 : FVec Ideal S1024 .f32) (i : Fin 2048) (k : Fin 1024) :
    val_main_v82 (F := Ideal) x0 x1 x2 x3 x4 x5 x6 x7 x8 x15 x16 x17 x18 (ix3 0 i k)
      = Spec.normD (fun k => val_main_v64 (F := Ideal) x0 x1 x2 x3 x4 x5 x6 x7 x8 x15 x16 (ix3 0 i k)) (fun k => x17 (ix1 k)) (fun k => x18 (ix1 k)) k := by
  have em : ∀ j : S1x2048x1.Idx, val_main_v68 (F := Ideal) x0 x1 x2 x3 x4 x5 x6 x7 x8 x15 x16 j
      = Spec.mean fun k => val_main_v64 (F := Ideal) x0 x1 x2 x3 x4 x5 x6 x7 x8 x15 x16 (ix3 0 (j 1) k) := fun j => by
    pointwise [val_main_v65, val_main_v66, val_main_v67, val_main_v68, val_main_cst_8, val_main_cst_9, Spec.mean]
  have ev : ∀ j : S1x2048x1.Idx, val_main_v69 (F := Ideal) x0 x1 x2 x3 x4 x5 x6 x7 x8 x15 x16 j
      = Spec.var fun k => val_main_v64 (F := Ideal) x0 x1 x2 x3 x4 x5 x6 x7 x8 x15 x16 (ix3 0 (j 1) k) := fun j => by
    pointwise [val_main_v69, val_main_c_10, val_main_call3_cst, val_main_call3_v0, val_main_call3_v1, val_main_call3_cst_0,
      val_main_call3_v2, val_main_call3_v3, val_main_call3_v4, val_main_call3_v5, val_main_call3_v6, val_main_call3_v7,
      val_main_call3_cst_1, val_main_call3_v8, val_main_call3_cst_2, val_main_call3_v9, val_main_call3_v10, val_main_call3_v11,
      val_main_call3_v12, val_main_call3_cst_3, val_main_call3_v13, val_main_call3_cst_4, val_main_call3_call0_v0,
      val_main_call3_call0_v1, Spec.var, Spec.mean]
    rw [count_sub, if_pos count_pos]
  pointwise [val_main_v70, val_main_v71, val_main_v72, val_main_v73, val_main_v74, val_main_v75, val_main_v76, val_main_v77,
    val_main_v78, val_main_v79, val_main_v80, val_main_v81, val_main_v82, val_main_cst_11]
  rw [em, ev]
  rfl

end Cert.Proof.Ref

end
-- ==== Proof.Ref.lean ====
/- The reference's attention and gated maps, read at an entry. -/
module

public import proofs.«01_k».proof.Proof.RefNorm
public import Idealize.ShloMosaic.Lib.WordCmp

@[expose] public section

set_option maxRecDepth 16384

noncomputable section

namespace Cert.Proof.Ref

open Idealize.ShloMosaic Cert.ReferenceIdeal Cert.ReferenceIdeal.Read
open scoped BigOperators

/-- The queries of head `h`: a linear map of the normalized row. -/
theorem v24 (x0 : FVec Ideal S1x2048x1024 .f32) (x1 : FVec Ideal S1024x1024 .f32) (x2 x15 x16 : FVec Ideal S1024 .f32)
    (h : Fin 16) (i : Fin 2048) (d : Fin 64) : val_main_v24 (F := Ideal) x0 x1 x2 x15 x16 (ix4 0 h i d)
      = Spec.lin (Spec.normD (fun k => x0 (ix3 0 i k)) (fun k => x15 (ix1 k)) (fun k => x16 (ix1 k))) (fun n k => x1 (ix2 n k))
          (fun k => x2 (ix1 k)) (Spec.col h d) := by
  rw [← funext (v17 x0 x15 x16 i)]
  pointwise [val_main_v18, val_main_v19, val_main_v20, val_main_v21, val_main_v22, val_main_v23, val_main_v24, Spec.lin, Spec.col]

/-- The keys of head `h`: the same map as the queries', of other arrays. -/
theorem v31 (x0 : FVec Ideal S1x2048x1024 .f32) (x3 : FVec Ideal S1024x1024 .f32) (x4 x15 x16 : FVec Ideal S1024 .f32)
    (h : Fin 16) (i : Fin 2048) (d : Fin 64) : val_main_v31 (F := Ideal) x0 x3 x4 x15 x16 (ix4 0 h i d)
      = Spec.lin (Spec.normD (fun k => x0 (ix3 0 i k)) (fun k => x15 (ix1 k)) (fun k => x16 (ix1 k))) (fun n k => x3 (ix2 n k))
          (fun k => x4 (ix1 k)) (Spec.col h d) :=
  v24 x0 x3 x4 x15 x16 h i d

/-- The values of head `h`. -/
theorem v38 (x0 : FVec Ideal S1x2048x1024 .f32) (x5 : FVec Ideal S1024x1024 .f32) (x6 x15 x16 : FVec Ideal S1024 .f32)
    (h : Fin 16) (i : Fin 2048) (d : Fin 64) : val_main_v38 (F := Ideal) x0 x5 x6 x15 x16 (ix4 0 h i d)
      = Spec.lin (Spec.normD (fun k => x0 (ix3 0 i k)) (fun k => x15 (ix1 k)) (fun k => x16 (ix1 k))) (fun n k => x5 (ix2 n k))
          (fun k => x6 (ix1 k)) (Spec.col h d) :=
  v24 x0 x5 x6 x15 x16 h i d

/-- The printed triangle of ones selects as `j ≤ i` does. -/
theorem select_tril {α : Type} {i j : Nat} (hi : i < 2048) (hj : j < 2048) (u v : α) :
    Scalar.select (Scalar.select (IntOp.cmpi .sge (IntOp.addi (BitVec.ofNat 32 i) 0#32) (BitVec.ofNat 32 j)) 1#1 0#1) u v
      = if j ≤ i then u else v := by
  have h : IntOp.addi (BitVec.ofNat 32 i) 0#32 = BitVec.ofNat 32 i := by
    show IntOp.addi (BitVec.ofNat 32 i) (BitVec.ofNat 32 0) = _
    rw [WordCmp.addi_ofNat, Nat.add_zero]
  rw [h, WordCmp.cmpi_sge_ofNat (by omega) (by omega), WordCmp.select_decide]
  by_cases hij : j ≤ i
  · rw [if_pos hij, if_pos hij]; rfl
  · rw [if_neg hij, if_neg hij]; rfl

/-- The maximum of each row of a `16 × 2048 × 2048` array, read at a row. -/
theorem rowMax {u : Shape} (y : FVec Ideal ⟨4, ![1, 16, 2048, 2048]⟩ .f32) (init : u.Idx → Ideal .f32)
    (h : (⟨4, ![1, 16, 2048, 2048]⟩ : Shape).ReducesTo [3] ⟨3, ![1, 16, 2048]⟩) (hu : 0 < u.numel) (a : Fin 16) (i : Fin 2048) :
    Host.reduce FloatOps.maximumf y init h hu (ix3 0 a i)
      = (Finset.univ : Finset (Fin 2048)).fold max (init (Shape.Idx.first hu)) (fun j => y (ix4 0 a i j)) := by
  rw [Host.reduce_eq_fold, Shape.ReducesTo.fold_fiber_r4_a3]
  rfl

/-- The value at hidden keys. -/
theorem masked (j : S_.Idx) : val_main_call2_v0 (F := Ideal) j = (⊥ : EReal) := Spec.neg_inf_f32

section attention

variable (x0 : FVec Ideal S1x2048x1024 .f32) (x1 x3 x5 : FVec Ideal S1024x1024 .f32) (x2 x4 x6 x15 x16 : FVec Ideal S1024 .f32)

/-- The masked scores of head `h`. -/
theorem v44 (h : Fin 16) (i j : Fin 2048) : val_main_v44 (F := Ideal) x0 x1 x2 x3 x4 x15 x16 (ix4 0 h i j)
      = Spec.scoreR (fun d => val_main_v24 (F := Ideal) x0 x1 x2 x15 x16 (ix4 0 h i d))
          (fun j d => val_main_v31 (F := Ideal) x0 x3 x4 x15 x16 (ix4 0 h j d)) i j := by
  pointwise [val_main_v39, val_main_v40, val_main_v41, val_main_v42, val_main_v43, val_main_v44, val_main_cst_2, val_main_c_3,
    val_main_cst_4, val_main_call1_v0, val_main_call1_c, val_main_call1_v1, val_main_call1_v2, val_main_call1_v3,
    val_main_call1_v4, val_main_call1_c_0, val_main_call1_v5, val_main_call2_v1, val_main_call2_v2, Spec.scoreR]
  simp only [masked, select_tril i.isLt j.isLt, Fin.le_def]

/-- A head's scores at the query row `i`. -/
abbrev scores (h : Fin 16) (i : Fin 2048) : Fin 2048 → EReal :=
  fun j => val_main_v44 (F := Ideal) x0 x1 x2 x3 x4 x15 x16 (ix4 0 h i j)

/-- They are the masked products of the row's query with the keys. -/
theorem scores_eq (h : Fin 16) (i : Fin 2048) : scores x0 x1 x3 x2 x4 x15 x16 h i
      = Spec.scoreR (fun d => val_main_v24 (F := Ideal) x0 x1 x2 x15 x16 (ix4 0 h i d))
          (fun j d => val_main_v31 (F := Ideal) x0 x3 x4 x15 x16 (ix4 0 h j d)) i :=
  funext (v44 x0 x1 x3 x2 x4 x15 x16 h i)

/-- The largest score of a row. -/
theorem v45 (h : Fin 16) (i : Fin 2048) :
    val_main_v45 (F := Ideal) x0 x1 x2 x3 x4 x15 x16 (ix3 0 h i) = Spec.top (scores x0 x1 x3 x2 x4 x15 x16 h i) := by
  unfold val_main_v45 Spec.top
  rw [rowMax, show val_main_cst_5 (F := Ideal) (Shape.Idx.first Gen.h_S_) = (⊥ : EReal) from Spec.neg_inf_f32]

/-- The maximum with `⊥` changes nothing. -/
theorem v47 (h : Fin 16) (i : Fin 2048) :
    val_main_v47 (F := Ideal) x0 x1 x2 x3 x4 x15 x16 (ix3 0 h i) = Spec.top (scores x0 x1 x3 x2 x4 x15 x16 h i) := by
  rw [← v45, val_main_v47_apply, val_main_v46_apply, val_main_cst_6_apply]
  generalize val_main_v45 (F := Ideal) x0 x1 x2 x3 x4 x15 x16 (ix3 0 h i) = y
  show max (Ideal.ofBits .f32 0xFF800000#32) y = y
  rw [Spec.neg_inf_f32]
  exact max_eq_right bot_le

/-- A key's weight. -/
theorem v51 (h : Fin 16) (i j : Fin 2048) :
    val_main_v51 (F := Ideal) x0 x1 x2 x3 x4 x15 x16 (ix4 0 h i j) = Spec.weight (scores x0 x1 x3 x2 x4 x15 x16 h i) j := by
  unfold Spec.weight
  rw [← v47]
  pointwise [val_main_v48, val_main_v49, val_main_v50, val_main_v51]

/-- A key's weight over the sum of the row's weights. -/
theorem v55 (h : Fin 16) (i j : Fin 2048) :
    val_main_v55 (F := Ideal) x0 x1 x2 x3 x4 x15 x16 (ix4 0 h i j)
      = Ideal.div (Spec.weight (scores x0 x1 x3 x2 x4 x15 x16 h i) j) (∑ l, Spec.weight (scores x0 x1 x3 x2 x4 x15 x16 h i) l) := by
  rw [← funext (v51 x0 x1 x3 x2 x4 x15 x16 h i)]
  pointwise [val_main_v52, val_main_v53, val_main_v54, val_main_v55, val_main_cst_7]

/-- The attention row, its columns by heads. -/
theorem v58 (i : Fin 2048) (n : Fin 1024) : val_main_v58 (F := Ideal) x0 x1 x2 x3 x4 x5 x6 x15 x16 (ix3 0 i n)
      = Spec.avgR (scores x0 x1 x3 x2 x4 x15 x16 (Spec.head n) i)
         (fun j => val_main_v38 (F := Ideal) x0 x5 x6 x15 x16 (ix4 0 (Spec.head n) j (Spec.lane n))) := by
  unfold Spec.avgR
  simp only [← v55]
  pointwise [val_main_v56, val_main_v57, val_main_v58, Spec.head, Spec.lane]

end attention

/-- The rows after attention. -/
theorem v64 (x0 : FVec Ideal S1x2048x1024 .f32) (x1 x3 x5 x7 : FVec Ideal S1024x1024 .f32) (x2 x4 x6 x8 x15 x16 : FVec Ideal S1024 .f32) (i : Fin 2048) (n : Fin 1024) : val_main_v64 (F := Ideal) x0 x1 x2 x3 x4 x5 x6 x7 x8 x15 x16 (ix3 0 i n)
      = Spec.mid (fun n => val_main_v58 (F := Ideal) x0 x1 x2 x3 x4 x5 x6 x15 x16 (ix3 0 i n)) (fun k => x0 (ix3 0 i k)) (fun n k => x7 (ix2 n k))
          (fun k => x8 (ix1 k)) n := by
  pointwise [val_main_v59, val_main_v60, val_main_v61, val_main_v62, val_main_v63, val_main_v64, Spec.mid, Spec.lin]

/-- The result, of the rows after attention. -/
theorem v100 (x0 : FVec Ideal S1x2048x1024 .f32) (x1 x3 x5 x7 x9 x11 x13 : FVec Ideal S1024x1024 .f32) (x2 x4 x6 x8 x10 x12 x14 x15 x16 x17 x18 : FVec Ideal S1024 .f32) (i : Fin 2048) (n : Fin 1024) :
    val_main_v100 (F := Ideal) x0 x1 x2 x3 x4 x5 x6 x7 x8 x9 x10 x11 x12 x13 x14 x15 x16 x17 x18 (ix3 0 i n)
      = Spec.mlpD (fun n => val_main_v64 (F := Ideal) x0 x1 x2 x3 x4 x5 x6 x7 x8 x15 x16 (ix3 0 i n)) (fun k => x17 (ix1 k)) (fun k => x18 (ix1 k))
         (fun n k => x9 (ix2 n k)) (fun n k => x11 (ix2 n k)) (fun n k => x13 (ix2 n k))
         (fun k => x10 (ix1 k)) (fun k => x12 (ix1 k)) (fun k => x14 (ix1 k)) n := by
  unfold Spec.mlpD
  rw [← funext (v82 x0 x1 x3 x5 x7 x2 x4 x6 x8 x15 x16 x17 x18 i)]
  pointwise [val_main_v83, val_main_v84, val_main_v85, val_main_v86, val_main_v87, val_main_v88, val_main_v89, val_main_v90,
    val_main_v91, val_main_v92, val_main_v93, val_main_v94, val_main_v95, val_main_v96, val_main_v97, val_main_v98, val_main_v99,
    val_main_v100, val_main_call4_v0, val_main_call4_v1, val_main_call4_cst, val_main_call4_v2, val_main_call4_v3,
    val_main_call4_cst_0, val_main_call4_v4, val_main_call4_v5, Spec.gated, Spec.lin, Ideal.logistic]

/-- The result of the arrays: the layer as the reference computes it. -/
theorem layer (x0 : FVec Ideal S1x2048x1024 .f32) (x1 x3 x5 x7 x9 x11 x13 : FVec Ideal S1024x1024 .f32) (x2 x4 x6 x8 x10 x12 x14 x15 x16 x17 x18 : FVec Ideal S1024 .f32) (i : Fin 2048) (n : Fin 1024) :
    val_main_v100 (F := Ideal) x0 x1 x2 x3 x4 x5 x6 x7 x8 x9 x10 x11 x12 x13 x14 x15 x16 x17 x18 (ix3 0 i n)
      = Spec.layerR (fun i k => x0 (ix3 0 i k)) (fun n k => x1 (ix2 n k)) (fun n k => x3 (ix2 n k)) (fun n k => x5 (ix2 n k))
          (fun n k => x7 (ix2 n k)) (fun n k => x9 (ix2 n k)) (fun n k => x11 (ix2 n k)) (fun n k => x13 (ix2 n k))
          (fun k => x2 (ix1 k)) (fun k => x4 (ix1 k)) (fun k => x6 (ix1 k)) (fun k => x8 (ix1 k)) (fun k => x10 (ix1 k))
          (fun k => x12 (ix1 k)) (fun k => x14 (ix1 k)) (fun k => x15 (ix1 k)) (fun k => x16 (ix1 k)) (fun k => x17 (ix1 k))
          (fun k => x18 (ix1 k)) i n := by
  unfold Spec.layerR Spec.attnR
  simp only [v100, v64, v58, scores_eq, v24, v31, v38, Spec.col_head_lane]

end Cert.Proof.Ref

end
-- ==== Proof.Pre.lean ====
/- What the precondition says of the argument arrays. -/
module

public import proofs.«01_k».proof.Proof.Spec
public import proofs.«01_k».proof.Pre_scores_finite
public import proofs.«01_k».proof.Proof.Gen.Pre_scores_finite
public import Idealize.ShloMosaic.Lib.Pointwise

@[expose] public section

noncomputable section

namespace Cert.Proof.Pre

open Idealize.ShloMosaic Cert.Pre_scores_finite
open scoped BigOperators

/-- A conjunction of two bits is one only if both are. -/
theorem and_one {a b : BitVec 1} (h : a &&& b = 1#1) : a = 1#1 ∧ b = 1#1 := by
  revert a b; decide

/-- An extended real whose absolute value compares below `⊤` is real. -/
theorem isReal_of_lt {x : EReal}
    (h : BitVec.ofBool (decide (FloatOps.absf (F := Ideal) (φ := .f32) x < Ideal.ofBits .f32 0x7F800000#32)) = 1#1) :
    Spec.IsReal x := by
  have hx : FloatOps.absf (F := Ideal) (φ := .f32) x < ⊤ := by
    rw [Spec.pos_inf_f32] at h
    by_contra hn
    rw [decide_eq_false hn] at h
    exact absurd h (by decide)
  rw [Spec.isReal_iff]
  constructor
  · rintro rfl; exact absurd hx (by show ¬ max (⊥ : EReal) (-⊥) < ⊤; simp)
  · rintro rfl; exact absurd hx (by show ¬ max (⊤ : EReal) (-⊤) < ⊤; simp)

/-- Where the precondition holds, the query and key projections' arrays and the first normalization's are real. -/
theorem real (x0 : FVec Ideal S1x2048x1024 .f32) (x1 x3 x5 x7 x9 x11 x13 : FVec Ideal S1024x1024 .f32) (x2 x4 x6 x8 x10 x12 x14 x15 x16 x17 x18 : FVec Ideal S1024 .f32)
    (h : fn (F := Ideal) x0 x1 x2 x3 x4 x5 x6 x7 x8 x9 x10 x11 x12 x13 x14 x15 x16 x17 x18 = fun _ => 1#1) (n k : Fin 1024) :
    Spec.IsReal (x1 (ix2 n k)) ∧ Spec.IsReal (x3 (ix2 n k)) ∧ Spec.IsReal (x2 (ix1 k)) ∧ Spec.IsReal (x4 (ix1 k))
      ∧ Spec.IsReal (x15 (ix1 k)) ∧ Spec.IsReal (x16 (ix1 k)) := by
  have e := congrFun h (ix2 n k)
  revert e
  pointwise [fn, fn_part1]
  intro e
  obtain ⟨e, h16⟩ := and_one e
  obtain ⟨e, h15⟩ := and_one e
  obtain ⟨e, h4⟩ := and_one e
  obtain ⟨e, h2⟩ := and_one e
  obtain ⟨h1, h3⟩ := and_one e
  exact ⟨isReal_of_lt h1, isReal_of_lt h3, isReal_of_lt h2, isReal_of_lt h4, isReal_of_lt h15, isReal_of_lt h16⟩

end Cert.Proof.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_scores_finite
public import proofs.«01_k».proof.Proof.Run
public import proofs.«01_k».proof.Proof.Ref
public import proofs.«01_k».proof.Proof.Pre
public import Idealize.ShloMosaic.Adequacy
public import Idealize.ShloMosaic.Init

@[expose] public section

noncomputable section

namespace Cert.Proof

open Idealize.ShloMosaic Idealize.SL.Sem

/-- The kernel at the machine's words runs, leaves its arguments as they were and ends with every semaphore at zero. -/
theorem frame_kernel : Cert.quiescent_Kernel (hKernel := Cert.Kernel.Gen.facts) :=
  fun m ρ _ => Cert.Kernel.Gen.frame m ρ

/-- So does the kernel over the extended reals. -/
theorem frame_kernelIdeal : Cert.quiescent_KernelIdeal (hKernelIdeal := Cert.KernelIdeal.Gen.facts) :=
  fun m ρ _ => Cert.KernelIdeal.Gen.frame m ρ

/-- So does the reference over the extended reals. -/
theorem frame_referenceIdeal : Cert.quiescent_ReferenceIdeal (hReferenceIdeal := Cert.ReferenceIdeal.Gen.facts) :=
  fun m ρ _ => θ_run_mono (Cert.ReferenceIdeal.Value.run (F := Ideal) m ρ)
    fun r h => ⟨fun c => (h c).2, Idealize.ShloMosaic.sem_eq_zero_of_no_sems (by decide) r.2⟩

/-- An array of shape `1 × 2048 × 1024` is its values at `(0, i, n)`. -/
theorem ext_ix3 {x y : FVec Ideal ⟨3, ![1, 2048, 1024]⟩ .f32} (h : ∀ (i : Fin 2048) (n : Fin 1024), x (ix3 0 i n) = y (ix3 0 i n)) :
    x = y := by
  funext j
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  rw [hj]
  exact h _ _

section value

open Cert.KernelIdeal

/-- From memories with equal arguments that meet the precondition, the kernel's result array is the reference's. -/
theorem value (m : (ℓ : Loc nD τ sig) → Buf (Elt Ideal) ℓ) (ρ : Dev nD → PrngReg) (c : Dev nD)
    (h : Cert.Pre_KernelIdeal_scores_finite (hPre_scores_finite := Cert.Pre_scores_finite.Gen.facts) m) :
    (Cert.KernelIdeal.Gen.W7 m ρ c (Proc.devRef .tc main_v23) : FVec Ideal S1x2048x1024 .f32)
      = Cert.ReferenceIdeal.Read.val_main_v100 (F := Ideal) (m (c.tc.loc main_arg0)) (m (c.tc.loc main_arg1)) (m (c.tc.loc main_arg2))
          (m (c.tc.loc main_arg3)) (m (c.tc.loc main_arg4)) (m (c.tc.loc main_arg5)) (m (c.tc.loc main_arg6)) (m (c.tc.loc main_arg7))
          (m (c.tc.loc main_arg8)) (m (c.tc.loc main_arg9)) (m (c.tc.loc main_arg10)) (m (c.tc.loc main_arg11))
          (m (c.tc.loc main_arg12)) (m (c.tc.loc main_arg13)) (m (c.tc.loc main_arg14)) (m (c.tc.loc main_arg15))
          (m (c.tc.loc main_arg16)) (m (c.tc.loc main_arg17)) (m (c.tc.loc main_arg18)) := by
  have r := Pre.real _ _ _ _ _ _ _ _ _ _ _ _ _ _ _ _ _ _ _ (h c)
  refine ext_ix3 fun i n => ?_
  rw [Host.v23, Ref.layer]
  exact Spec.layerK_eq_layerR _ _ _ _ _ _ _ _ _ _ _ _ _ (fun n k => (r n k).1) (fun n k => (r n k).2.1)
    (fun k => (r 0 k).2.2.1) (fun k => (r 0 k).2.2.2.1) (fun k => (r 0 k).2.2.2.2.1) (fun k => (r 0 k).2.2.2.2.2) i n

end value

/-- The kernel and the reference end with equal results. -/
theorem algebraic : Cert.algebraic_KernelIdeal_ReferenceIdeal_pre_scores_finite (hKernelIdeal := Cert.KernelIdeal.Gen.facts)
    (hReferenceIdeal := Cert.ReferenceIdeal.Gen.facts) (hPre_scores_finite := Cert.Pre_scores_finite.Gen.facts) := by
  intro m g m' g' hpre hargs
  refine ⟨fun c => Cert.KernelIdeal.Gen.W7 m g c (Proc.devRef .tc Cert.KernelIdeal.main_v23), θ_run_mono (Run.ends m g) fun r h c => ?_,
    θ_run_mono (Cert.ReferenceIdeal.Value.run (F := Ideal) m' g') fun r h c => ?_⟩
  · refine ⟨h c _ (Cert.KernelIdeal.Gen.mem_uc Cert.KernelIdeal.main_v23 (by decide)), ?_⟩
    exact ⟨(h c _ (Cert.KernelIdeal.Gen.mem_uc Cert.KernelIdeal.main_arg0 (by decide))).trans (Cert.KernelIdeal.Gen.W7_main_arg0 m g c),
      (h c _ (Cert.KernelIdeal.Gen.mem_uc Cert.KernelIdeal.main_arg1 (by decide))).trans (Cert.KernelIdeal.Gen.W7_main_arg1 m g c),
      (h c _ (Cert.KernelIdeal.Gen.mem_uc Cert.KernelIdeal.main_arg2 (by decide))).trans (Cert.KernelIdeal.Gen.W7_main_arg2 m g c),
      (h c _ (Cert.KernelIdeal.Gen.mem_uc Cert.KernelIdeal.main_arg3 (by decide))).trans (Cert.KernelIdeal.Gen.W7_main_arg3 m g c),
      (h c _ (Cert.KernelIdeal.Gen.mem_uc Cert.KernelIdeal.main_arg4 (by decide))).trans (Cert.KernelIdeal.Gen.W7_main_arg4 m g c),
      (h c _ (Cert.KernelIdeal.Gen.mem_uc Cert.KernelIdeal.main_arg5 (by decide))).trans (Cert.KernelIdeal.Gen.W7_main_arg5 m g c),
      (h c _ (Cert.KernelIdeal.Gen.mem_uc Cert.KernelIdeal.main_arg6 (by decide))).trans (Cert.KernelIdeal.Gen.W7_main_arg6 m g c),
      (h c _ (Cert.KernelIdeal.Gen.mem_uc Cert.KernelIdeal.main_arg7 (by decide))).trans (Cert.KernelIdeal.Gen.W7_main_arg7 m g c),
      (h c _ (Cert.KernelIdeal.Gen.mem_uc Cert.KernelIdeal.main_arg8 (by decide))).trans (Cert.KernelIdeal.Gen.W7_main_arg8 m g c),
      (h c _ (Cert.KernelIdeal.Gen.mem_uc Cert.KernelIdeal.main_arg9 (by decide))).trans (Cert.KernelIdeal.Gen.W7_main_arg9 m g c),
      (h c _ (Cert.KernelIdeal.Gen.mem_uc Cert.KernelIdeal.main_arg10 (by decide))).trans (Cert.KernelIdeal.Gen.W7_main_arg10 m g c),
      (h c _ (Cert.KernelIdeal.Gen.mem_uc Cert.KernelIdeal.main_arg11 (by decide))).trans (Cert.KernelIdeal.Gen.W7_main_arg11 m g c),
      (h c _ (Cert.KernelIdeal.Gen.mem_uc Cert.KernelIdeal.main_arg12 (by decide))).trans (Cert.KernelIdeal.Gen.W7_main_arg12 m g c),
      (h c _ (Cert.KernelIdeal.Gen.mem_uc Cert.KernelIdeal.main_arg13 (by decide))).trans (Cert.KernelIdeal.Gen.W7_main_arg13 m g c),
      (h c _ (Cert.KernelIdeal.Gen.mem_uc Cert.KernelIdeal.main_arg14 (by decide))).trans (Cert.KernelIdeal.Gen.W7_main_arg14 m g c),
      (h c _ (Cert.KernelIdeal.Gen.mem_uc Cert.KernelIdeal.main_arg15 (by decide))).trans (Cert.KernelIdeal.Gen.W7_main_arg15 m g c),
      (h c _ (Cert.KernelIdeal.Gen.mem_uc Cert.KernelIdeal.main_arg16 (by decide))).trans (Cert.KernelIdeal.Gen.W7_main_arg16 m g c),
      (h c _ (Cert.KernelIdeal.Gen.mem_uc Cert.KernelIdeal.main_arg17 (by decide))).trans (Cert.KernelIdeal.Gen.W7_main_arg17 m g c),
      (h c _ (Cert.KernelIdeal.Gen.mem_uc Cert.KernelIdeal.main_arg18 (by decide))).trans (Cert.KernelIdeal.Gen.W7_main_arg18 m g c)⟩
  · refine ⟨?_, (h c).2⟩
    rw [(h c).1, Cert.ReferenceIdeal.Read.val_main_v100_eq]
    obtain ⟨e0, e1, e2, e3, e4, e5, e6, e7, e8, e9, e10, e11, e12, e13, e14, e15, e16, e17, e18⟩ := hargs c
    refine Eq.trans ?_ (value m g c hpre).symm
    rw [← e0, ← e1, ← e2, ← e3, ← e4, ← e5, ← e6, ← e7, ← e8, ← e9, ← e10, ← e11, ← e12, ← e13, ← e14, ← e15,
      ← e16, ← e17, ← e18]

/-- The certificate's claim. -/
theorem claim : Cert.Claim := ⟨Cert.Kernel.Gen.facts, Cert.KernelIdeal.Gen.facts, Cert.ReferenceIdeal.Gen.facts,
  Cert.Pre_scores_finite.Gen.facts, frame_kernel, frame_kernelIdeal, fun m ρ _ => frame_kernelIdeal m ρ trivial,
  frame_referenceIdeal, fun m ρ _ => frame_referenceIdeal m ρ trivial, IdealRules.named_const.statement _ _ _ _ _ rfl, algebraic⟩

end Cert.Proof

end
